-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ffn_grad_finite [hPre_ffn_grad_finite : Cert.Pre_ffn_grad_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ffn_grad_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ffn_grad_finite [hPre_ffn_grad_finite : Cert.Pre_ffn_grad_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ffn_grad_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_mix_grad_finite [hPre_mix_grad_finite : Cert.Pre_mix_grad_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_mix_grad_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_mix_grad_finite [hPre_mix_grad_finite : Cert.Pre_mix_grad_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_mix_grad_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_ffn0_grad_finite [hPre_ffn0_grad_finite : Cert.Pre_ffn0_grad_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_ffn0_grad_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_ffn0_grad_finite [hPre_ffn0_grad_finite : Cert.Pre_ffn0_grad_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_ffn0_grad_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_ffn0_grad_finite [hPre_ffn0_grad_finite : Cert.Pre_ffn0_grad_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_ffn0_grad_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_ffn0_grad_finite [hPre_ffn0_grad_finite : Cert.Pre_ffn0_grad_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_ffn0_grad_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_ffn_grad_finite [hKernelIdeal : Cert.KernelIdeal.Facts] [hPre_ffn_grad_finite : Cert.Pre_ffn_grad_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ffn_grad_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_ffn_grad_finite [hReferenceIdeal : Cert.ReferenceIdeal.Facts] [hPre_ffn_grad_finite : Cert.Pre_ffn_grad_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ffn_grad_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_mix_grad_finite [hKernel2Ideal : Cert.Kernel2Ideal.Facts] [hPre_mix_grad_finite : Cert.Pre_mix_grad_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_mix_grad_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_mix_grad_finite [hReference2Ideal : Cert.Reference2Ideal.Facts] [hPre_mix_grad_finite : Cert.Pre_mix_grad_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_mix_grad_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_ffn0_grad_finite [hKernel3Ideal : Cert.Kernel3Ideal.Facts] [hPre_ffn0_grad_finite : Cert.Pre_ffn0_grad_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_ffn0_grad_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_ffn0_grad_finite [hReference3Ideal : Cert.Reference3Ideal.Facts] [hPre_ffn0_grad_finite : Cert.Pre_ffn0_grad_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_ffn0_grad_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_ffn0_grad_finite [hKernel4Ideal : Cert.Kernel4Ideal.Facts] [hPre_ffn0_grad_finite : Cert.Pre_ffn0_grad_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_ffn0_grad_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_ffn0_grad_finite [hReference4Ideal : Cert.Reference4Ideal.Facts] [hPre_ffn0_grad_finite : Cert.Pre_ffn0_grad_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_ffn0_grad_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal_pre_ffn_grad_finite [hKernelIdeal : Cert.KernelIdeal.Facts] [hReferenceIdeal : Cert.ReferenceIdeal.Facts] [hPre_ffn_grad_finite : Cert.Pre_ffn_grad_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ffn_grad_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "gelu_cubic" .f32 0x3D372713#32 ((8943 / 200000 : ℝ) : EReal)
  ∧ IdealRules.named_const.Statement Cert.Kernel2Ideal.κ "gelu_cubic_grad" .f32 0x3E095D4F#32 ((26829 / 200000 : ℝ) : EReal)

def algebraic_Kernel2Ideal_Reference2Ideal_pre_mix_grad_finite [hKernel2Ideal : Cert.Kernel2Ideal.Facts] [hReference2Ideal : Cert.Reference2Ideal.Facts] [hPre_mix_grad_finite : Cert.Pre_mix_grad_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_mix_grad_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v34_0)) (v1 : (c : Dev Cert.Kernel2Ideal.nD) → Buf (Elt Ideal) ((c.tc : Thread Cert.Kernel2Ideal.nD Cert.Kernel2Ideal.τ).loc Cert.Kernel2Ideal.main_v34_1)) (v2 : (c : Dev Cert.Kernel2Ideal.nD) → Buf (Elt Ideal) ((c.tc : Thread Cert.Kernel2Ideal.nD Cert.Kernel2Ideal.τ).loc Cert.Kernel2Ideal.main_v34_2)) (v3 : (c : Dev Cert.Kernel2Ideal.nD) → Buf (Elt Ideal) ((c.tc : Thread Cert.Kernel2Ideal.nD Cert.Kernel2Ideal.τ).loc Cert.Kernel2Ideal.main_v34_3)) (v4 : (c : Dev Cert.Kernel2Ideal.nD) → Buf (Elt Ideal) ((c.tc : Thread Cert.Kernel2Ideal.nD Cert.Kernel2Ideal.τ).loc Cert.Kernel2Ideal.main_v34_4)) (v5 : (c : Dev Cert.Kernel2Ideal.nD) → Buf (Elt Ideal) ((c.tc : Thread Cert.Kernel2Ideal.nD Cert.Kernel2Ideal.τ).loc Cert.Kernel2Ideal.main_v34_5)) (v6 : (c : Dev Cert.Kernel2Ideal.nD) → Buf (Elt Ideal) ((c.tc : Thread Cert.Kernel2Ideal.nD Cert.Kernel2Ideal.τ).loc Cert.Kernel2Ideal.main_v34_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v34_0) = v0 c
          ∧ r.2.mem ((c.tc : Thread Cert.Kernel2Ideal.nD Cert.Kernel2Ideal.τ).loc Cert.Kernel2Ideal.main_v34_1) = v1 c
          ∧ r.2.mem ((c.tc : Thread Cert.Kernel2Ideal.nD Cert.Kernel2Ideal.τ).loc Cert.Kernel2Ideal.main_v34_2) = v2 c
          ∧ r.2.mem ((c.tc : Thread Cert.Kernel2Ideal.nD Cert.Kernel2Ideal.τ).loc Cert.Kernel2Ideal.main_v34_3) = v3 c
          ∧ r.2.mem ((c.tc : Thread Cert.Kernel2Ideal.nD Cert.Kernel2Ideal.τ).loc Cert.Kernel2Ideal.main_v34_4) = v4 c
          ∧ r.2.mem ((c.tc : Thread Cert.Kernel2Ideal.nD Cert.Kernel2Ideal.τ).loc Cert.Kernel2Ideal.main_v34_5) = v5 c
          ∧ r.2.mem ((c.tc : Thread Cert.Kernel2Ideal.nD Cert.Kernel2Ideal.τ).loc Cert.Kernel2Ideal.main_v34_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v78) = v0 c
          ∧ r.2.mem ((c.tc : Thread Cert.Reference2Ideal.nD Cert.Reference2Ideal.τ).loc Cert.Reference2Ideal.main_v59) = v1 c
          ∧ r.2.mem ((c.tc : Thread Cert.Reference2Ideal.nD Cert.Reference2Ideal.τ).loc Cert.Reference2Ideal.main_v79) = v2 c
          ∧ r.2.mem ((c.tc : Thread Cert.Reference2Ideal.nD Cert.Reference2Ideal.τ).loc Cert.Reference2Ideal.main_v80) = v3 c
          ∧ r.2.mem ((c.tc : Thread Cert.Reference2Ideal.nD Cert.Reference2Ideal.τ).loc Cert.Reference2Ideal.main_v58) = v4 c
          ∧ r.2.mem ((c.tc : Thread Cert.Reference2Ideal.nD Cert.Reference2Ideal.τ).loc Cert.Reference2Ideal.main_v54) = v5 c
          ∧ r.2.mem ((c.tc : Thread Cert.Reference2Ideal.nD Cert.Reference2Ideal.τ).loc Cert.Reference2Ideal.main_v46) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_ffn0_grad_finite [hKernel3Ideal : Cert.Kernel3Ideal.Facts] [hReference3Ideal : Cert.Reference3Ideal.Facts] [hPre_ffn0_grad_finite : Cert.Pre_ffn0_grad_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_ffn0_grad_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_v45) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_ffn0_grad_finite [hKernel4Ideal : Cert.Kernel4Ideal.Facts] [hReference4Ideal : Cert.Reference4Ideal.Facts] [hPre_ffn0_grad_finite : Cert.Pre_ffn0_grad_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_ffn0_grad_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)) (v2 : (c : Dev Cert.Kernel4Ideal.nD) → Buf (Elt Ideal) ((c.tc : Thread Cert.Kernel4Ideal.nD Cert.Kernel4Ideal.τ).loc Cert.Kernel4Ideal.main_v13_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_v13_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_v42) = v1 c
          ∧ r.2.mem ((c.tc : Thread Cert.Reference4Ideal.nD Cert.Reference4Ideal.τ).loc Cert.Reference4Ideal.main_v45) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_ffn_grad_finite : Cert.Pre_ffn_grad_finite.Facts) (hPre_mix_grad_finite : Cert.Pre_mix_grad_finite.Facts) (hPre_ffn0_grad_finite : Cert.Pre_ffn0_grad_finite.Facts),
    quiescent_Kernel (hKernel := hKernel)
    ∧ quiescent_KernelIdeal (hKernelIdeal := hKernelIdeal)
    ∧ quiescent_KernelIdeal_pre_ffn_grad_finite (hKernelIdeal := hKernelIdeal) (hPre_ffn_grad_finite := hPre_ffn_grad_finite)
    ∧ quiescent_ReferenceIdeal (hReferenceIdeal := hReferenceIdeal)
    ∧ quiescent_ReferenceIdeal_pre_ffn_grad_finite (hReferenceIdeal := hReferenceIdeal) (hPre_ffn_grad_finite := hPre_ffn_grad_finite)
    ∧ quiescent_Kernel2 (hKernel2 := hKernel2)
    ∧ quiescent_Kernel2Ideal (hKernel2Ideal := hKernel2Ideal)
    ∧ quiescent_Kernel2Ideal_pre_mix_grad_finite (hKernel2Ideal := hKernel2Ideal) (hPre_mix_grad_finite := hPre_mix_grad_finite)
    ∧ quiescent_Reference2Ideal (hReference2Ideal := hReference2Ideal)
    ∧ quiescent_Reference2Ideal_pre_mix_grad_finite (hReference2Ideal := hReference2Ideal) (hPre_mix_grad_finite := hPre_mix_grad_finite)
    ∧ quiescent_Kernel3 (hKernel3 := hKernel3)
    ∧ quiescent_Kernel3Ideal (hKernel3Ideal := hKernel3Ideal)
    ∧ quiescent_Kernel3Ideal_pre_ffn0_grad_finite (hKernel3Ideal := hKernel3Ideal) (hPre_ffn0_grad_finite := hPre_ffn0_grad_finite)
    ∧ quiescent_Reference3Ideal (hReference3Ideal := hReference3Ideal)
    ∧ quiescent_Reference3Ideal_pre_ffn0_grad_finite (hReference3Ideal := hReference3Ideal) (hPre_ffn0_grad_finite := hPre_ffn0_grad_finite)
    ∧ quiescent_Kernel4 (hKernel4 := hKernel4)
    ∧ quiescent_Kernel4Ideal (hKernel4Ideal := hKernel4Ideal)
    ∧ quiescent_Kernel4Ideal_pre_ffn0_grad_finite (hKernel4Ideal := hKernel4Ideal) (hPre_ffn0_grad_finite := hPre_ffn0_grad_finite)
    ∧ quiescent_Reference4Ideal (hReference4Ideal := hReference4Ideal)
    ∧ quiescent_Reference4Ideal_pre_ffn0_grad_finite (hReference4Ideal := hReference4Ideal) (hPre_ffn0_grad_finite := hPre_ffn0_grad_finite)
    ∧ preserves_Kernel_KernelIdeal
    ∧ algebraic_KernelIdeal_ReferenceIdeal_pre_ffn_grad_finite (hKernelIdeal := hKernelIdeal) (hReferenceIdeal := hReferenceIdeal) (hPre_ffn_grad_finite := hPre_ffn_grad_finite)
    ∧ preserves_Kernel2_Kernel2Ideal
    ∧ algebraic_Kernel2Ideal_Reference2Ideal_pre_mix_grad_finite (hKernel2Ideal := hKernel2Ideal) (hReference2Ideal := hReference2Ideal) (hPre_mix_grad_finite := hPre_mix_grad_finite)
    ∧ preserves_Kernel3_Kernel3Ideal
    ∧ algebraic_Kernel3Ideal_Reference3Ideal_pre_ffn0_grad_finite (hKernel3Ideal := hKernel3Ideal) (hReference3Ideal := hReference3Ideal) (hPre_ffn0_grad_finite := hPre_ffn0_grad_finite)
    ∧ preserves_Kernel4_Kernel4Ideal
    ∧ algebraic_Kernel4Ideal_Reference4Ideal_pre_ffn0_grad_finite (hKernel4Ideal := hKernel4Ideal) (hReference4Ideal := hReference4Ideal) (hPre_ffn0_grad_finite := hPre_ffn0_grad_finite)
-- ==== Pre_ffn0_grad_finite.lean ====
abbrev S8704x1024 : Shape := ⟨2, ![8704, 1024]⟩
abbrev S2x9x1024 : Shape := ⟨3, ![2, 9, 1024]⟩
abbrev S8x1024x352 : Shape := ⟨3, ![8, 1024, 352]⟩
abbrev S8x352x1024 : Shape := ⟨3, ![8, 352, 1024]⟩
abbrev S_ : Shape := ⟨0, ![]⟩

class Facts : Prop where
  bcast_S_S8704x1024 : S_.BroadcastsInDim S8704x1024 (![] : Fin 0 → Fin S8704x1024.rank)
  reducesTo_S8704x1024_S_d0_1 : S8704x1024.ReducesTo [0, 1] S_
  h_S_ : 0 < S_.numel
  bcast_S_S2x9x1024 : S_.BroadcastsInDim S2x9x1024 (![] : Fin 0 → Fin S2x9x1024.rank)
  reducesTo_S2x9x1024_S_d0_1_2 : S2x9x1024.ReducesTo [0, 1, 2] S_
  bcast_S_S8x1024x352 : S_.BroadcastsInDim S8x1024x352 (![] : Fin 0 → Fin S8x1024x352.rank)
  reducesTo_S8x1024x352_S_d0_1_2 : S8x1024x352.ReducesTo [0, 1, 2] S_
  bcast_S_S8x352x1024 : S_.BroadcastsInDim S8x352x1024 (![] : Fin 0 → Fin S8x352x1024.rank)
  reducesTo_S8x352x1024_S_d0_1_2 : S8x352x1024.ReducesTo [0, 1, 2] S_

variable [Facts]

def fn_part1 {F : FTy → Type} [FloatOps F] (main_arg4 : FVec F S8x1024x352 .f32) (main_arg5 : FVec F S8x352x1024 .f32) (main_v13 : IVec S_ 1) (main_v16 : IVec S8x1024x352 1) : IVec S_ 1 :=
  let main_c_5 : IVec S_ 1 := constantI S_ 1 1#1
  let main_v17 : IVec S_ 1 := (fun x v => Host.reduce IntOp.andi x v reducesTo_S8x1024x352_S_d0_1_2 h_S_) main_v16 main_c_5
  let main_v18 : IVec S_ 1 := andi main_v13 main_v17
  let main_v19 : FVec F S8x1024x352 .f32 := Host.absf main_arg4
  let main_cst_6 : FVec F S_ .f32 := constant S_ .f32 0x71800000#32
  let main_v20 : FVec F S8x1024x352 .f32 := broadcastInDim S8x1024x352 ![] bcast_S_S8x1024x352 main_cst_6
  let main_v21 : IVec S8x1024x352 1 := cmpf .ole main_v19 main_v20
  let main_c_7 : IVec S_ 1 := constantI S_ 1 1#1
  let main_v22 : IVec S_ 1 := (fun x v => Host.reduce IntOp.andi x v reducesTo_S8x1024x352_S_d0_1_2 h_S_) main_v21 main_c_7
  let main_v23 : IVec S_ 1 := andi main_v18 main_v22
  let main_v24 : FVec F S8x352x1024 .f32 := Host.absf main_arg5
  let main_cst_8 : FVec F S_ .f32 := constant S_ .f32 0x71800000#32
  let main_v25 : FVec F S8x352x1024 .f32 := broadcastInDim S8x352x1024 ![] bcast_S_S8x352x1024 main_cst_8
  let main_v26 : IVec S8x352x1024 1 := cmpf .ole main_v24 main_v25
  let main_c_9 : IVec S_ 1 := constantI S_ 1 1#1
  let main_v27 : IVec S_ 1 := (fun x v => Host.reduce IntOp.andi x v reducesTo_S8x352x1024_S_d0_1_2 h_S_) main_v26 main_c_9
  let main_v28 : IVec S_ 1 := andi main_v23 main_v27
  main_v28

def fn {F : FTy → Type} [FloatOps F] (main_arg0 : FVec F S8704x1024 .f32) (main_arg1 : FVec F S2x9x1024 .f32) (main_arg2 : FVec F S8704x1024 .f32) (main_arg3 : FVec F S8x1024x352 .f32) (main_arg4 : FVec F S8x1024x352 .f32) (main_arg5 : FVec F S8x352x1024 .f32) : IVec S_ 1 :=
  let main_v0 : FVec F S8704x1024 .f32 := Host.absf main_arg0
  let main_cst : FVec F S_ .f32 := constant S_ .f32 0x71800000#32
  let main_v1 : FVec F S8704x1024 .f32 := broadcastInDim S8704x1024 ![] bcast_S_S8704x1024 main_cst
  let main_v2 : IVec S8704x1024 1 := cmpf .ole main_v0 main_v1
  let main_c : IVec S_ 1 := constantI S_ 1 1#1
  let main_v3 : IVec S_ 1 := (fun x v => Host.reduce IntOp.andi x v reducesTo_S8704x1024_S_d0_1 h_S_) main_v2 main_c
  let main_v4 : FVec F S2x9x1024 .f32 := Host.absf main_arg1
  let main_cst_0 : FVec F S_ .f32 := constant S_ .f32 0x71800000#32
  let main_v5 : FVec F S2x9x1024 .f32 := broadcastInDim S2x9x1024 ![] bcast_S_S2x9x1024 main_cst_0
  let main_v6 : IVec S2x9x1024 1 := cmpf .ole main_v4 main_v5
  let main_c_1 : IVec S_ 1 := constantI S_ 1 1#1
  let main_v7 : IVec S_ 1 := (fun x v => Host.reduce IntOp.andi x v reducesTo_S2x9x1024_S_d0_1_2 h_S_) main_v6 main_c_1
  let main_v8 : IVec S_ 1 := andi main_v3 main_v7
  let main_v9 : FVec F S8704x1024 .f32 := Host.absf main_arg2
  let main_cst_2 : FVec F S_ .f32 := constant S_ .f32 0x71800000#32
  let main_v10 : FVec F S8704x1024 .f32 := broadcastInDim S8704x1024 ![] bcast_S_S8704x1024 main_cst_2
  let main_v11 : IVec S8704x1024 1 := cmpf .ole main_v9 main_v10
  let main_c_3 : IVec S_ 1 := constantI S_ 1 1#1
  let main_v12 : IVec S_ 1 := (fun x v => Host.reduce IntOp.andi x v reducesTo_S8704x1024_S_d0_1 h_S_) main_v11 main_c_3
  let main_v13 : IVec S_ 1 := andi main_v8 main_v12
  let main_v14 : FVec F S8x1024x352 .f32 := Host.absf main_arg3
  let main_cst_4 : FVec F S_ .f32 := constant S_ .f32 0x71800000#32
  let main_v15 : FVec F S8x1024x352 .f32 := broadcastInDim S8x1024x352 ![] bcast_S_S8x1024x352 main_cst_4
  let main_v16 : IVec S8x1024x352 1 := cmpf .ole main_v14 main_v15
  fn_part1 (F := F) main_arg4 main_arg5 main_v13 main_v16
-- ==== Pre_ffn_grad_finite.lean ====
abbrev S8192x1024 : Shape := ⟨2, ![8192, 1024]⟩
abbrev S2x9x1024 : Shape := ⟨3, ![2, 9, 1024]⟩
abbrev S8x1024x352 : Shape := ⟨3, ![8, 1024, 352]⟩
abbrev S8x352x1024 : Shape := ⟨3, ![8, 352, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2x9x1024 : S_.BroadcastsInDim S2x9x1024 (![] : Fin 0 → Fin S2x9x1024.rank)
  reducesTo_S2x9x1024_S_d0_1_2 : S2x9x1024.ReducesTo [0, 1, 2] S_
  bcast_S_S8x1024x352 : S_.BroadcastsInDim S8x1024x352 (![] : Fin 0 → Fin S8x1024x352.rank)
  reducesTo_S8x1024x352_S_d0_1_2 : S8x1024x352.ReducesTo [0, 1, 2] S_
  bcast_S_S8x352x1024 : S_.BroadcastsInDim S8x352x1024 (![] : Fin 0 → Fin S8x352x1024.rank)
  reducesTo_S8x352x1024_S_d0_1_2 : S8x352x1024.ReducesTo [0, 1, 2] S_

variable [Facts]

def fn_part1 {F : FTy → Type} [FloatOps F] (main_arg4 : FVec F S8x1024x352 .f32) (main_arg5 : FVec F S8x352x1024 .f32) (main_v13 : IVec S_ 1) (main_v16 : IVec S8x1024x352 1) : IVec S_ 1 :=
  let main_c_5 : IVec S_ 1 := constantI S_ 1 1#1
  let main_v17 : IVec S_ 1 := (fun x v => Host.reduce IntOp.andi x v reducesTo_S8x1024x352_S_d0_1_2 h_S_) main_v16 main_c_5
  let main_v18 : IVec S_ 1 := andi main_v13 main_v17
  let main_v19 : FVec F S8x1024x352 .f32 := Host.absf main_arg4
  let main_cst_6 : FVec F S_ .f32 := constant S_ .f32 0x71800000#32
  let main_v20 : FVec F S8x1024x352 .f32 := broadcastInDim S8x1024x352 ![] bcast_S_S8x1024x352 main_cst_6
  let main_v21 : IVec S8x1024x352 1 := cmpf .ole main_v19 main_v20
  let main_c_7 : IVec S_ 1 := constantI S_ 1 1#1
  let main_v22 : IVec S_ 1 := (fun x v => Host.reduce IntOp.andi x v reducesTo_S8x1024x352_S_d0_1_2 h_S_) main_v21 main_c_7
  let main_v23 : IVec S_ 1 := andi main_v18 main_v22
  let main_v24 : FVec F S8x352x1024 .f32 := Host.absf main_arg5
  let main_cst_8 : FVec F S_ .f32 := constant S_ .f32 0x71800000#32
  let main_v25 : FVec F S8x352x1024 .f32 := broadcastInDim S8x352x1024 ![] bcast_S_S8x352x1024 main_cst_8
  let main_v26 : IVec S8x352x1024 1 := cmpf .ole main_v24 main_v25
  let main_c_9 : IVec S_ 1 := constantI S_ 1 1#1
  let main_v27 : IVec S_ 1 := (fun x v => Host.reduce IntOp.andi x v reducesTo_S8x352x1024_S_d0_1_2 h_S_) main_v26 main_c_9
  let main_v28 : IVec S_ 1 := andi main_v23 main_v27
  main_v28

def fn {F : FTy → Type} [FloatOps F] (main_arg0 : FVec F S8192x1024 .f32) (main_arg1 : FVec F S2x9x1024 .f32) (main_arg2 : FVec F S8192x1024 .f32) (main_arg3 : FVec F S8x1024x352 .f32) (main_arg4 : FVec F S8x1024x352 .f32) (main_arg5 : FVec F S8x352x1024 .f32) : IVec S_ 1 :=
  let main_v0 : FVec F S8192x1024 .f32 := Host.absf main_arg0
  let main_cst : FVec F S_ .f32 := constant S_ .f32 0x71800000#32
  let main_v1 : FVec F S8192x1024 .f32 := broadcastInDim S8192x1024 ![] bcast_S_S8192x1024 main_cst
  let main_v2 : IVec S8192x1024 1 := cmpf .ole main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2x9x1024 .f32 := Host.absf main_arg1
  let main_cst_0 : FVec F S_ .f32 := constant S_ .f32 0x71800000#32
  let main_v5 : FVec F S2x9x1024 .f32 := broadcastInDim S2x9x1024 ![] bcast_S_S2x9x1024 main_cst_0
  let main_v6 : IVec S2x9x1024 1 := cmpf .ole main_v4 main_v5
  let main_c_1 : IVec S_ 1 := constantI S_ 1 1#1
  let main_v7 : IVec S_ 1 := (fun x v => Host.reduce IntOp.andi x v reducesTo_S2x9x1024_S_d0_1_2 h_S_) main_v6 main_c_1
  let main_v8 : IVec S_ 1 := andi main_v3 main_v7
  let main_v9 : FVec F S8192x1024 .f32 := Host.absf main_arg2
  let main_cst_2 : FVec F S_ .f32 := constant S_ .f32 0x71800000#32
  let main_v10 : FVec F S8192x1024 .f32 := broadcastInDim S8192x1024 ![] bcast_S_S8192x1024 main_cst_2
  let main_v11 : IVec S8192x1024 1 := cmpf .ole main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8x1024x352 .f32 := Host.absf main_arg3
  let main_cst_4 : FVec F S_ .f32 := constant S_ .f32 0x71800000#32
  let main_v15 : FVec F S8x1024x352 .f32 := broadcastInDim S8x1024x352 ![] bcast_S_S8x1024x352 main_cst_4
  let main_v16 : IVec S8x1024x352 1 := cmpf .ole main_v14 main_v15
  fn_part1 (F := F) main_arg4 main_arg5 main_v13 main_v16
-- ==== Pre_mix_grad_finite.lean ====
abbrev S8192x1024 : Shape := ⟨2, ![8192, 1024]⟩
abbrev S8192x512 : Shape := ⟨2, ![8192, 512]⟩
abbrev S2x9x1024 : Shape := ⟨3, ![2, 9, 1024]⟩
abbrev S512x512 : Shape := ⟨2, ![512, 512]⟩
abbrev S1x512 : Shape := ⟨2, ![1, 512]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S2x9x1024 : S_.BroadcastsInDim S2x9x1024 (![] : Fin 0 → Fin S2x9x1024.rank)
  reducesTo_S2x9x1024_S_d0_1_2 : S2x9x1024.ReducesTo [0, 1, 2] S_
  bcast_S_S512x512 : S_.BroadcastsInDim S512x512 (![] : Fin 0 → Fin S512x512.rank)
  reducesTo_S512x512_S_d0_1 : S512x512.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg7 : FVec F S1024x1024 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S1024x1024 .f32 := Host.absf main_arg7
  let main_cst_6 : FVec F S_ .f32 := constant S_ .f32 0x71800000#32
  let main_v20 : FVec F S1024x1024 .f32 := broadcastInDim S1024x1024 ![] bcast_S_S1024x1024 main_cst_6
  let main_v21 : IVec S1024x1024 1 := cmpf .ole main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S8192x1024 .f32) (main_arg1 : FVec F S8192x512 .f32) (main_arg2 : FVec F S8192x512 .f32) (main_arg3 : FVec F S2x9x1024 .f32) (main_arg4 : FVec F S512x512 .f32) (main_arg5 : FVec F S1x512 .f32) (main_arg6 : FVec F S512x512 .f32) (main_arg7 : FVec F S1024x1024 .f32) : IVec S_ 1 :=
  let main_v0 : FVec F S8192x1024 .f32 := Host.absf main_arg0
  let main_cst : FVec F S_ .f32 := constant S_ .f32 0x71800000#32
  let main_v1 : FVec F S8192x1024 .f32 := broadcastInDim S8192x1024 ![] bcast_S_S8192x1024 main_cst
  let main_v2 : IVec S8192x1024 1 := cmpf .ole main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x512 .f32 := Host.absf main_arg1
  let main_cst_0 : FVec F S_ .f32 := constant S_ .f32 0x71800000#32
  let main_v5 : FVec F S8192x512 .f32 := broadcastInDim S8192x512 ![] bcast_S_S8192x512 main_cst_0
  let main_v6 : IVec S8192x512 1 := cmpf .ole main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S2x9x1024 .f32 := Host.absf main_arg3
  let main_cst_2 : FVec F S_ .f32 := constant S_ .f32 0x71800000#32
  let main_v10 : FVec F S2x9x1024 .f32 := broadcastInDim S2x9x1024 ![] bcast_S_S2x9x1024 main_cst_2
  let main_v11 : IVec S2x9x1024 1 := cmpf .ole main_v9 main_v10
  let main_c_3 : IVec S_ 1 := constantI S_ 1 1#1
  let main_v12 : IVec S_ 1 := (fun x v => Host.reduce IntOp.andi x v reducesTo_S2x9x1024_S_d0_1_2 h_S_) main_v11 main_c_3
  let main_v13 : IVec S_ 1 := andi main_v8 main_v12
  let main_v14 : FVec F S512x512 .f32 := Host.absf main_arg6
  let main_cst_4 : FVec F S_ .f32 := constant S_ .f32 0x71800000#32
  let main_v15 : FVec F S512x512 .f32 := broadcastInDim S512x512 ![] bcast_S_S512x512 main_cst_4
  let main_v16 : IVec S512x512 1 := cmpf .ole main_v14 main_v15
  fn_part1 (F := F) main_arg7 main_v13 main_v16
-- ==== Kernel.lean ====
abbrev S8192x1024 : Shape := ⟨2, ![8192, 1024]⟩
abbrev S2x9x1024 : Shape := ⟨3, ![2, 9, 1024]⟩
abbrev S8x1024x352 : Shape := ⟨3, ![8, 1024, 352]⟩
abbrev S8x352x1024 : Shape := ⟨3, ![8, 352, 1024]⟩
abbrev S_ : Shape := ⟨0, ![]⟩
abbrev S8x384x1024 : Shape := ⟨3, ![8, 384, 1024]⟩
abbrev S8x768x1024 : Shape := ⟨3, ![8, 768, 1024]⟩
abbrev S4x768x1024 : Shape := ⟨3, ![4, 768, 1024]⟩
abbrev S8192x8x768 : Shape := ⟨3, ![8192, 8, 768]⟩
abbrev S8192x6144 : Shape := ⟨2, ![8192, 6144]⟩
abbrev S4x8192x1024 : Shape := ⟨3, ![4, 8192, 1024]⟩
abbrev S512x1024 : Shape := ⟨2, ![512, 1024]⟩
abbrev S1x9x1024 : Shape := ⟨3, ![1, 9, 1024]⟩
abbrev S512x1536 : Shape := ⟨2, ![512, 1536]⟩
abbrev S2x768x1024 : Shape := ⟨3, ![2, 768, 1024]⟩
abbrev S1x768x1024 : Shape := ⟨3, ![1, 768, 1024]⟩
abbrev S1x512x1024 : Shape := ⟨3, ![1, 512, 1024]⟩
abbrev S768x1024 : Shape := ⟨2, ![768, 1024]⟩
abbrev S1x1x1024 : Shape := ⟨3, ![1, 1, 1024]⟩
abbrev S1x1024 : Shape := ⟨2, ![1, 1024]⟩
abbrev S512x768 : Shape := ⟨2, ![512, 768]⟩
abbrev S512x384 : Shape := ⟨2, ![512, 384]⟩

abbrev nBuf : Space → Nat
  | .hbm => 28
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S2x9x1024, .f32⟩
  | .hbm, ⟨2, _⟩ => ⟨S8192x1024, .f32⟩
  | .hbm, ⟨3, _⟩ => ⟨S8x1024x352, .f32⟩
  | .hbm, ⟨4, _⟩ => ⟨S8x1024x352, .f32⟩
  | .hbm, ⟨5, _⟩ => ⟨S8x352x1024, .f32⟩
  | .hbm, ⟨6, _⟩ => ⟨S8x352x1024, .f32⟩
  | .hbm, ⟨7, _⟩ => ⟨S8x352x1024, .f32⟩
  | .hbm, ⟨8, _⟩ => ⟨S_, .i32⟩
  | .hbm, ⟨9, _⟩ => ⟨S_, .f32⟩
  | .hbm, ⟨10, _⟩ => ⟨S8x384x1024, .f32⟩
  | .hbm, ⟨11, _⟩ => ⟨S_, .i32⟩
  | .hbm, ⟨12, _⟩ => ⟨S_, .f32⟩
  | .hbm, ⟨13, _⟩ => ⟨S8x384x1024, .f32⟩
  | .hbm, ⟨14, _⟩ => ⟨S8x768x1024, .f32⟩
  | .hbm, ⟨15, _⟩ => ⟨S8x768x1024, .bf16⟩
  | .hbm, ⟨16, _⟩ => ⟨S_, .i32⟩
  | .hbm, ⟨17, _⟩ => ⟨S_, .f32⟩
  | .hbm, ⟨18, _⟩ => ⟨S8x384x1024, .f32⟩
  | .hbm, ⟨19, _⟩ => ⟨S8x384x1024, .bf16⟩
  | .hbm, ⟨20, _⟩ => ⟨S4x768x1024, .bf16⟩
  | .hbm, ⟨21, _⟩ => ⟨S8192x1024, .bf16⟩
  | .hbm, ⟨22, _⟩ => ⟨S8192x8x768, .f32⟩
  | .hbm, ⟨23, _⟩ => ⟨S8192x8x768, .bf16⟩
  | .hbm, ⟨24, _⟩ => ⟨S8192x6144, .bf16⟩
  | .hbm, ⟨25, _⟩ => ⟨S4x8192x1024, .bf16⟩
  | .hbm, ⟨26, _⟩ => ⟨S8x768x1024, .bf16⟩
  | .hbm, ⟨27, _⟩ => ⟨S4x768x1024, .bf16⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S512x1024, .bf16⟩
  | .local _ .vmem, ⟨4, _⟩ => ⟨S512x1024, .bf16⟩
  | .local _ .vmem, ⟨5, _⟩ => ⟨S512x1536, .bf16⟩
  | .local _ .vmem, ⟨6, _⟩ => ⟨S512x1536, .bf16⟩
  | .local _ .vmem, ⟨7, _⟩ => ⟨S2x768x1024, .bf16⟩
  | .local _ .vmem, ⟨8, _⟩ => ⟨S2x768x1024, .bf16⟩
  | .local _ .vmem, ⟨9, _⟩ => ⟨S1x768x1024, .bf16⟩
  | .local _ .vmem, ⟨10, _⟩ => ⟨S1x768x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S2x768x1024, .bf16⟩
  | .local _ .vmem, ⟨14, _⟩ => ⟨S2x768x1024, .bf16⟩
  | .local _ .vmem, ⟨15, _⟩ => ⟨S1x768x1024, .bf16⟩
  | .local _ .vmem, ⟨16, _⟩ => ⟨S1x768x1024, .bf16⟩
  | .local _ .vmem, ⟨17, _⟩ => ⟨S2x768x1024, .f32⟩
  | .local _ .vmem, ⟨18, _⟩ => ⟨S768x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_call2_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v104 : BitVec 1 := Scalar.cmpi .eq arg1 c15_i32
  let v105 : BitVec 32 := Scalar.extui v104
  let c0_i32_53 : BitVec 32 := 0#32
  let v106 : BitVec 1 := Scalar.cmpi .ne v105 c0_i32_53
  v106

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x768x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x768x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8192x1024 : Shape := ⟨2, ![8192, 1024]⟩
abbrev S2x9x1024 : Shape := ⟨3, ![2, 9, 1024]⟩
abbrev S8x1024x352 : Shape := ⟨3, ![8, 1024, 352]⟩
abbrev S8x352x1024 : Shape := ⟨3, ![8, 352, 1024]⟩
abbrev S1x1x1024 : Shape := ⟨3, ![1, 1, 1024]⟩
abbrev S1024 : Shape := ⟨1, ![1024]⟩
abbrev S_ : Shape := ⟨0, ![]⟩
abbrev S8192x8x352 : Shape := ⟨3, ![8192, 8, 352]⟩
abbrev S8x8192x1024 : Shape := ⟨3, ![8, 8192, 1024]⟩
abbrev S1x1024 : Shape := ⟨2, ![1, 1024]⟩
abbrev S1024x8x352 : Shape := ⟨3, ![1024, 8, 352]⟩
abbrev S4x2x8192x1024 : Shape := ⟨4, ![4, 2, 8192, 1024]⟩
abbrev S4x8192x1024 : Shape := ⟨3, ![4, 8192, 1024]⟩
abbrev S8x384x1024 : Shape := ⟨3, ![8, 384, 1024]⟩
abbrev S8x768x1024 : Shape := ⟨3, ![8, 768, 1024]⟩
abbrev S4x768x1024 : Shape := ⟨3, ![4, 768, 1024]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x9x1024, .f32⟩
  | .hbm, ⟨2, _⟩ => ⟨S8192x1024, .f32⟩
  | .hbm, ⟨3, _⟩ => ⟨S8x1024x352, .f32⟩
  | .hbm, ⟨4, _⟩ => ⟨S8x1024x352, .f32⟩
  | .hbm, ⟨5, _⟩ => ⟨S8x352x1024, .f32⟩
  | .hbm, ⟨6, _⟩ => ⟨S1x1x1024, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S8192x8x352, .f32⟩
  | .hbm, ⟨12, _⟩ => ⟨S8192x8x352, .f32⟩
  | .hbm, ⟨13, _⟩ => ⟨S8192x8x352, .f32⟩
  | .hbm, ⟨14, _⟩ => ⟨S_, .f32⟩
  | .hbm, ⟨15, _⟩ => ⟨S8192x8x352, .f32⟩
  | .hbm, ⟨16, _⟩ => ⟨S8192x8x352, .f32⟩
  | .hbm, ⟨17, _⟩ => ⟨S_, .f32⟩
  | .hbm, ⟨18, _⟩ => ⟨S8192x8x352, .f32⟩
  | .hbm, ⟨19, _⟩ => ⟨S8192x8x352, .f32⟩
  | .hbm, ⟨20, _⟩ => ⟨S_, .f32⟩
  | .hbm, ⟨21, _⟩ => ⟨S8192x8x352, .f32⟩
  | .hbm, ⟨22, _⟩ => ⟨S8192x8x352, .f32⟩
  | .hbm, ⟨23, _⟩ => ⟨S8192x8x352, .f32⟩
  | .hbm, ⟨24, _⟩ => ⟨S8192x8x352, .f32⟩
  | .hbm, ⟨25, _⟩ => ⟨S8192x8x352, .f32⟩
  | .hbm, ⟨26, _⟩ => ⟨S8192x8x352, .f32⟩
  | .hbm, ⟨27, _⟩ => ⟨S8x8192x1024, .f32⟩
  | .hbm, ⟨28, _⟩ => ⟨S1x1024, .f32⟩
  | .hbm, ⟨29, _⟩ => ⟨S1x1x1024, .f32⟩
  | .hbm, ⟨30, _⟩ => ⟨S8x8192x1024, .f32⟩
  | .hbm, ⟨31, _⟩ => ⟨S8x8192x1024, .f32⟩
  | .hbm, ⟨32, _⟩ => ⟨S8192x1024, .f32⟩
  | .hbm, ⟨33, _⟩ => ⟨S8192x1024, .f32⟩
  | .hbm, ⟨34, _⟩ => ⟨S1024x8x352, .f32⟩
  | .hbm, ⟨35, _⟩ => ⟨S8x352x1024, .f32⟩
  | .hbm, ⟨36, _⟩ => ⟨S8192x8x352, .f32⟩
  | .hbm, ⟨37, _⟩ => ⟨S8192x8x352, .f32⟩
  | .hbm, ⟨38, _⟩ => ⟨S8192x8x352, .f32⟩
  | .hbm, ⟨39, _⟩ => ⟨S8x352x1024, .f32⟩
  | .hbm, ⟨40, _⟩ => ⟨S8x1024x352, .f32⟩
  | .hbm, ⟨41, _⟩ => ⟨S8x8192x1024, .f32⟩
  | .hbm, ⟨42, _⟩ => ⟨S8192x8x352, .f32⟩
  | .hbm, ⟨43, _⟩ => ⟨S8192x8x352, .f32⟩
  | .hbm, ⟨44, _⟩ => ⟨S8192x8x352, .f32⟩
  | .hbm, ⟨45, _⟩ => ⟨S8192x8x352, .f32⟩
  | .hbm, ⟨46, _⟩ => ⟨S8x352x1024, .f32⟩
  | .hbm, ⟨47, _⟩ => ⟨S8x1024x352, .f32⟩
  | .hbm, ⟨48, _⟩ => ⟨S8x8192x1024, .f32⟩
  | .hbm, ⟨49, _⟩ => ⟨S8x8192x1024, .f32⟩
  | .hbm, ⟨50, _⟩ => ⟨S4x2x8192x1024, .f32⟩
  | .hbm, ⟨51, _⟩ => ⟨S_, .f32⟩
  | .hbm, ⟨52, _⟩ => ⟨S4x8192x1024, .f32⟩
  | .hbm, ⟨53, _⟩ => ⟨S8x352x1024, .f32⟩
  | .hbm, ⟨54, _⟩ => ⟨S_, .i32⟩
  | .hbm, ⟨55, _⟩ => ⟨S_, .f32⟩
  | .hbm, ⟨56, _⟩ => ⟨S8x384x1024, .f32⟩
  | .hbm, ⟨57, _⟩ => ⟨S8x352x1024, .f32⟩
  | .hbm, ⟨58, _⟩ => ⟨S_, .i32⟩
  | .hbm, ⟨59, _⟩ => ⟨S_, .f32⟩
  | .hbm, ⟨60, _⟩ => ⟨S8x384x1024, .f32⟩
  | .hbm, ⟨61, _⟩ => ⟨S8x768x1024, .f32⟩
  | .hbm, ⟨62, _⟩ => ⟨S4x8192x1024, .bf16⟩
  | .hbm, ⟨63, _⟩ => ⟨S8x768x1024, .bf16⟩
  | .hbm, ⟨64, _⟩ => ⟨S_, .i32⟩
  | .hbm, ⟨65, _⟩ => ⟨S_, .f32⟩
  | .hbm, ⟨66, _⟩ => ⟨S8x384x1024, .f32⟩
  | .hbm, ⟨67, _⟩ => ⟨S8x384x1024, .bf16⟩
  | .hbm, ⟨68, _⟩ => ⟨S4x768x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v5_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v5_1 : Ref sig .tc := ⟨.hbm, 23, rfl⟩
abbrev main_v5_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_0 : Ref sig .tc := ⟨.hbm, 51, rfl⟩
abbrev main_v29 : Ref sig .tc := ⟨.hbm, 52, rfl⟩
abbrev main_v30 : Ref sig .tc := ⟨.hbm, 53, rfl⟩
abbrev main_c : Ref sig .tc := ⟨.hbm, 54, rfl⟩
abbrev main_call2_v0 : Ref sig .tc := ⟨.hbm, 55, rfl⟩
abbrev main_v31 : Ref sig .tc := ⟨.hbm, 56, rfl⟩
abbrev main_v32 : Ref sig .tc := ⟨.hbm, 57, rfl⟩
abbrev main_c_1 : Ref sig .tc := ⟨.hbm, 58, rfl⟩
abbrev main_call3_v0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_2 : Ref sig .tc := ⟨.hbm, 64, rfl⟩
abbrev main_call4_v0 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩

abbrev nD : Nat := 1
abbrev τ : Topo := Topo.v7x

variable {F : FTy → Type} [FloatOps F]
-- ==== Kernel2.lean ====
abbrev S8192x1024 : Shape := ⟨2, ![8192, 1024]⟩
abbrev S8192x512 : Shape := ⟨2, ![8192, 512]⟩
abbrev S2x9x1024 : Shape := ⟨3, ![2, 9, 1024]⟩
abbrev S512x512 : Shape := ⟨2, ![512, 512]⟩
abbrev S1x512 : Shape := ⟨2, ![1, 512]⟩
abbrev S1024x1024 : Shape := ⟨2, ![1024, 1024]⟩
abbrev S_ : Shape := ⟨0, ![]⟩
abbrev S1x1024 : Shape := ⟨2, ![1, 1024]⟩
abbrev S512x1024 : Shape := ⟨2, ![512, 1024]⟩
abbrev S1x9x1024 : Shape := ⟨3, ![1, 9, 1024]⟩
abbrev S1024 : Shape := ⟨1, ![1024]⟩
abbrev S1x1x1024 : Shape := ⟨3, ![1, 1, 1024]⟩
abbrev S512 : Shape := ⟨1, ![512]⟩

abbrev nBuf : Space → Nat
  | .hbm => 56
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S2x9x1024, .f32⟩
  | .hbm, ⟨4, _⟩ => ⟨S512x512, .f32⟩
  | .hbm, ⟨5, _⟩ => ⟨S1x512, .f32⟩
  | .hbm, ⟨6, _⟩ => ⟨S512x512, .f32⟩
  | .hbm, ⟨7, _⟩ => ⟨S1024x1024, .f32⟩
  | .hbm, ⟨8, _⟩ => ⟨S512x512, .bf16⟩
  | .hbm, ⟨9, _⟩ => ⟨S512x512, .bf16⟩
  | .hbm, ⟨10, _⟩ => ⟨S1024x1024, .bf16⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .bf16⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .bf16⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x1024, .f32⟩
  | .hbm, ⟨46, _⟩ => ⟨S8192x1024, .bf16⟩
  | .hbm, ⟨47, _⟩ => ⟨S8192x1024, .f32⟩
  | .hbm, ⟨48, _⟩ => ⟨S8192x1024, .bf16⟩
  | .hbm, ⟨49, _⟩ => ⟨S8192x512, .f32⟩
  | .hbm, ⟨50, _⟩ => ⟨S8192x512, .f32⟩
  | .hbm, ⟨51, _⟩ => ⟨S1024x1024, .bf16⟩
  | .hbm, ⟨52, _⟩ => ⟨S512x512, .bf16⟩
  | .hbm, ⟨53, _⟩ => ⟨S512x512, .f32⟩
  | .hbm, ⟨54, _⟩ => ⟨S1x512, .f32⟩
  | .hbm, ⟨55, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x9x1024, .f32⟩
  | .local _ .vmem, ⟨11, _⟩ => ⟨S512x512, .bf16⟩
  | .local _ .vmem, ⟨12, _⟩ => ⟨S1x512, .f32⟩
  | .local _ .vmem, ⟨13, _⟩ => ⟨S512x512, .bf16⟩
  | .local _ .vmem, ⟨14, _⟩ => ⟨S1024x1024, .bf16⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S1024x1024, .bf16⟩
  | .local _ .vmem, ⟨20, _⟩ => ⟨S512x512, .bf16⟩
  | .local _ .vmem, ⟨21, _⟩ => ⟨S512x512, .f32⟩
  | .local _ .vmem, ⟨22, _⟩ => ⟨S1x512, .f32⟩
  | .local _ .vmem, ⟨23, _⟩ => ⟨S1x1024, .f32⟩
  | .local _ .vmem, ⟨24, _⟩ => ⟨S1024x1024, .f32⟩
  | .local _ .vmem, ⟨25, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34_0 : Ref sig .tc := ⟨.hbm, 49, rfl⟩
abbrev main_v34_1 : Ref sig .tc := ⟨.hbm, 50, rfl⟩
abbrev main_v34_2 : Ref sig .tc := ⟨.hbm, 51, rfl⟩
abbrev main_v34_3 : Ref sig .tc := ⟨.hbm, 52, rfl⟩
abbrev main_v34_4 : Ref sig .tc := ⟨.hbm, 53, rfl⟩
abbrev main_v34_5 : Ref sig .tc := ⟨.hbm, 54, rfl⟩
abbrev main_v34_6 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v128 : BitVec 1 := Scalar.cmpi .eq arg0 c15_i32
  let v129 : BitVec 32 := Scalar.extui v128
  let c0_i32_74 : BitVec 32 := 0#32
  let v130 : BitVec 1 := Scalar.cmpi .ne v129 c0_i32_74
  v130

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x9x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Kernel2Ideal.lean ====
variable {F : FTy → Type} [FloatOps F] [Named F]
def κ : String → Option EReal := fun
  | "gelu_cubic" => some ((8943 / 200000 : ℝ) : EReal)
  | "gelu_cubic_grad" => some ((26829 / 200000 : ℝ) : EReal)
  | _ => none
-- ==== Reference2Ideal.lean ====
abbrev S8192x1024 : Shape := ⟨2, ![8192, 1024]⟩
abbrev S8192x512 : Shape := ⟨2, ![8192, 512]⟩
abbrev S2x9x1024 : Shape := ⟨3, ![2, 9, 1024]⟩
abbrev S512x512 : Shape := ⟨2, ![512, 512]⟩
abbrev S1x512 : Shape := ⟨2, ![1, 512]⟩
abbrev S1024x1024 : Shape := ⟨2, ![1024, 1024]⟩
abbrev S1x1x1024 : Shape := ⟨3, ![1, 1, 1024]⟩
abbrev S1x1024 : Shape := ⟨2, ![1, 1024]⟩
abbrev S_ : Shape := ⟨0, ![]⟩
abbrev S1024 : Shape := ⟨1, ![1024]⟩
abbrev S512 : Shape := ⟨1, ![512]⟩

abbrev nBuf : Space → Nat
  | .hbm => 104
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S2x9x1024, .f32⟩
  | .hbm, ⟨4, _⟩ => ⟨S512x512, .f32⟩
  | .hbm, ⟨5, _⟩ => ⟨S1x512, .f32⟩
  | .hbm, ⟨6, _⟩ => ⟨S512x512, .f32⟩
  | .hbm, ⟨7, _⟩ => ⟨S1024x1024, .f32⟩
  | .hbm, ⟨8, _⟩ => ⟨S1x1x1024, .f32⟩
  | .hbm, ⟨9, _⟩ => ⟨S1x1024, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S_, .f32⟩
  | .hbm, ⟨34, _⟩ => ⟨S8192x512, .f32⟩
  | .hbm, ⟨35, _⟩ => ⟨S8192x512, .f32⟩
  | .hbm, ⟨36, _⟩ => ⟨S_, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192x512, .f32⟩
  | .hbm, ⟨45, _⟩ => ⟨S8192x512, .f32⟩
  | .hbm, ⟨46, _⟩ => ⟨S_, .f32⟩
  | .hbm, ⟨47, _⟩ => ⟨S8192x512, .f32⟩
  | .hbm, ⟨48, _⟩ => ⟨S8192x512, .f32⟩
  | .hbm, ⟨49, _⟩ => ⟨S_, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S1024x1024, .f32⟩
  | .hbm, ⟨68, _⟩ => ⟨S1024x1024, .f32⟩
  | .hbm, ⟨69, _⟩ => ⟨S8192x1024, .f32⟩
  | .hbm, ⟨70, _⟩ => ⟨S8192x512, .f32⟩
  | .hbm, ⟨71, _⟩ => ⟨S8192x512, .f32⟩
  | .hbm, ⟨72, _⟩ => ⟨S8192x512, .f32⟩
  | .hbm, ⟨73, _⟩ => ⟨S_, .f32⟩
  | .hbm, ⟨74, _⟩ => ⟨S512, .f32⟩
  | .hbm, ⟨75, _⟩ => ⟨S1x512, .f32⟩
  | .hbm, ⟨76, _⟩ => ⟨S8192x512, .f32⟩
  | .hbm, ⟨77, _⟩ => ⟨S8192x512, .f32⟩
  | .hbm, ⟨78, _⟩ => ⟨S512x512, .f32⟩
  | .hbm, ⟨79, _⟩ => ⟨S512x512, .f32⟩
  | .hbm, ⟨80, _⟩ => ⟨S8192x512, .f32⟩
  | .hbm, ⟨81, _⟩ => ⟨S8192x512, .f32⟩
  | .hbm, ⟨82, _⟩ => ⟨S8192x512, .f32⟩
  | .hbm, ⟨83, _⟩ => ⟨S8192x512, .f32⟩
  | .hbm, ⟨84, _⟩ => ⟨S512x512, .f32⟩
  | .hbm, ⟨85, _⟩ => ⟨S512x512, .f32⟩
  | .hbm, ⟨86, _⟩ => ⟨S8192x512, .f32⟩
  | .hbm, ⟨87, _⟩ => ⟨S8192x512, .f32⟩
  | .hbm, ⟨88, _⟩ => ⟨S8192x512, .f32⟩
  | .hbm, ⟨89, _⟩ => ⟨S8192x512, .f32⟩
  | .hbm, ⟨90, _⟩ => ⟨S_, .f32⟩
  | .hbm, ⟨91, _⟩ => ⟨S8192x512, .f32⟩
  | .hbm, ⟨92, _⟩ => ⟨S8192x512, .f32⟩
  | .hbm, ⟨93, _⟩ => ⟨S8192x512, .f32⟩
  | .hbm, ⟨94, _⟩ => ⟨S_, .f32⟩
  | .hbm, ⟨95, _⟩ => ⟨S8192x512, .f32⟩
  | .hbm, ⟨96, _⟩ => ⟨S8192x512, .f32⟩
  | .hbm, ⟨97, _⟩ => ⟨S8192x512, .f32⟩
  | .hbm, ⟨98, _⟩ => ⟨S8192x512, .f32⟩
  | .hbm, ⟨99, _⟩ => ⟨S8192x512, .f32⟩
  | .hbm, ⟨100, _⟩ => ⟨S8192x512, .f32⟩
  | .hbm, ⟨101, _⟩ => ⟨S8192x512, .f32⟩
  | .hbm, ⟨102, _⟩ => ⟨S1024x1024, .bf16⟩
  | .hbm, ⟨103, _⟩ => ⟨S512x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_12 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_13 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩

abbrev nD : Nat := 1
abbrev τ : Topo := Topo.v7x

variable {F : FTy → Type} [FloatOps F]
-- ==== Kernel3.lean ====
abbrev S8704x1024 : Shape := ⟨2, ![8704, 1024]⟩
abbrev S2x9x1024 : Shape := ⟨3, ![2, 9, 1024]⟩
abbrev S8x1024x352 : Shape := ⟨3, ![8, 1024, 352]⟩
abbrev S8x352x1024 : Shape := ⟨3, ![8, 352, 1024]⟩
abbrev S_ : Shape := ⟨0, ![]⟩
abbrev S8x384x1024 : Shape := ⟨3, ![8, 384, 1024]⟩
abbrev S8x768x1024 : Shape := ⟨3, ![8, 768, 1024]⟩
abbrev S4x768x1024 : Shape := ⟨3, ![4, 768, 1024]⟩
abbrev S8704x8x768 : Shape := ⟨3, ![8704, 8, 768]⟩
abbrev S8704x6144 : Shape := ⟨2, ![8704, 6144]⟩
abbrev S2x8704x1024 : Shape := ⟨3, ![2, 8704, 1024]⟩
abbrev S2x768x1024 : Shape := ⟨3, ![2, 768, 1024]⟩
abbrev S512x1024 : Shape := ⟨2, ![512, 1024]⟩
abbrev S1x9x1024 : Shape := ⟨3, ![1, 9, 1024]⟩
abbrev S512x1536 : Shape := ⟨2, ![512, 1536]⟩
abbrev S1x768x1024 : Shape := ⟨3, ![1, 768, 1024]⟩
abbrev S1x512x1024 : Shape := ⟨3, ![1, 512, 1024]⟩
abbrev S768x1024 : Shape := ⟨2, ![768, 1024]⟩
abbrev S1x1x1024 : Shape := ⟨3, ![1, 1, 1024]⟩
abbrev S1x1024 : Shape := ⟨2, ![1, 1024]⟩
abbrev S512x768 : Shape := ⟨2, ![512, 768]⟩
abbrev S512x384 : Shape := ⟨2, ![512, 384]⟩

abbrev nBuf : Space → Nat
  | .hbm => 28
  | .vmem => 20
  | .smem => 0
  | _ => 0

abbrev bufTy : (tb : Table) → Fin (tcTables nBuf tb) → BufTy
  | .hbm, ⟨0, _⟩ => ⟨S8704x1024, .f32⟩
  | .hbm, ⟨1, _⟩ => ⟨S2x9x1024, .f32⟩
  | .hbm, ⟨2, _⟩ => ⟨S8704x1024, .f32⟩
  | .hbm, ⟨3, _⟩ => ⟨S8x1024x352, .f32⟩
  | .hbm, ⟨4, _⟩ => ⟨S8x1024x352, .f32⟩
  | .hbm, ⟨5, _⟩ => ⟨S8x352x1024, .f32⟩
  | .hbm, ⟨6, _⟩ => ⟨S8x352x1024, .f32⟩
  | .hbm, ⟨7, _⟩ => ⟨S8x352x1024, .f32⟩
  | .hbm, ⟨8, _⟩ => ⟨S_, .i32⟩
  | .hbm, ⟨9, _⟩ => ⟨S_, .f32⟩
  | .hbm, ⟨10, _⟩ => ⟨S8x384x1024, .f32⟩
  | .hbm, ⟨11, _⟩ => ⟨S_, .i32⟩
  | .hbm, ⟨12, _⟩ => ⟨S_, .f32⟩
  | .hbm, ⟨13, _⟩ => ⟨S8x384x1024, .f32⟩
  | .hbm, ⟨14, _⟩ => ⟨S8x768x1024, .f32⟩
  | .hbm, ⟨15, _⟩ => ⟨S8x768x1024, .bf16⟩
  | .hbm, ⟨16, _⟩ => ⟨S_, .i32⟩
  | .hbm, ⟨17, _⟩ => ⟨S_, .f32⟩
  | .hbm, ⟨18, _⟩ => ⟨S8x384x1024, .f32⟩
  | .hbm, ⟨19, _⟩ => ⟨S8x384x1024, .bf16⟩
  | .hbm, ⟨20, _⟩ => ⟨S4x768x1024, .bf16⟩
  | .hbm, ⟨21, _⟩ => ⟨S8704x1024, .bf16⟩
  | .hbm, ⟨22, _⟩ => ⟨S8704x8x768, .f32⟩
  | .hbm, ⟨23, _⟩ => ⟨S8704x8x768, .bf16⟩
  | .hbm, ⟨24, _⟩ => ⟨S8704x6144, .bf16⟩
  | .hbm, ⟨25, _⟩ => ⟨S2x8704x1024, .bf16⟩
  | .hbm, ⟨26, _⟩ => ⟨S4x768x1024, .bf16⟩
  | .hbm, ⟨27, _⟩ => ⟨S2x768x1024, .bf16⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S512x1024, .bf16⟩
  | .local _ .vmem, ⟨5, _⟩ => ⟨S512x1024, .bf16⟩
  | .local _ .vmem, ⟨6, _⟩ => ⟨S512x1536, .bf16⟩
  | .local _ .vmem, ⟨7, _⟩ => ⟨S512x1536, .bf16⟩
  | .local _ .vmem, ⟨8, _⟩ => ⟨S2x768x1024, .bf16⟩
  | .local _ .vmem, ⟨9, _⟩ => ⟨S2x768x1024, .bf16⟩
  | .local _ .vmem, ⟨10, _⟩ => ⟨S1x768x1024, .bf16⟩
  | .local _ .vmem, ⟨11, _⟩ => ⟨S1x768x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S2x768x1024, .bf16⟩
  | .local _ .vmem, ⟨15, _⟩ => ⟨S2x768x1024, .bf16⟩
  | .local _ .vmem, ⟨16, _⟩ => ⟨S1x768x1024, .bf16⟩
  | .local _ .vmem, ⟨17, _⟩ => ⟨S1x768x1024, .bf16⟩
  | .local _ .vmem, ⟨18, _⟩ => ⟨S2x768x1024, .f32⟩
  | .local _ .vmem, ⟨19, _⟩ => ⟨S768x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_call2_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 17], ![false, false]⟩

def k0_cond2 (i : grid0.Coords) : BitVec 1 :=
  let arg1 : BitVec 32 := BitVec.ofNat 32 (i 1).val
  let c16_i32 : BitVec 32 := 16#32
  let v104 : BitVec 1 := Scalar.cmpi .eq arg1 c16_i32
  let v105 : BitVec 32 := Scalar.extui v104
  let c0_i32_53 : BitVec 32 := 0#32
  let v106 : BitVec 1 := Scalar.cmpi .ne v105 c0_i32_53
  v106

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 32 := Scalar.subi arg1 c1_i32
  let c16_i32 : BitVec 32 := 16#32
  let v2 : BitVec 32 := Scalar.select v0 c16_i32 v1
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 32 := Scalar.subi arg1 c1_i32
  let c16_i32 : BitVec 32 := 16#32
  let v2 : BitVec 32 := Scalar.select v0 c16_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 32 := Scalar.subi arg1 c1_i32
  let c16_i32 : BitVec 32 := 16#32
  let v2 : BitVec 32 := Scalar.select v0 c16_i32 v1
  let c0_i32_0 : BitVec 32 := 0#32
  let v3 : BitVec 32 := Scalar.addi c0_i32_0 arg0
  let c0_i32_1 : BitVec 32 := 0#32
  ![v2.toNat, v3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 32 := Scalar.subi arg1 c1_i32
  let c16_i32 : BitVec 32 := 16#32
  let v2 : BitVec 32 := Scalar.select v0 c16_i32 v1
  let c0_i32_0 : BitVec 32 := 0#32
  let c0_i32_1 : BitVec 32 := 0#32
  ![arg0.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x768x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x768x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S8704x1024 : Shape := ⟨2, ![8704, 1024]⟩
abbrev S2x9x1024 : Shape := ⟨3, ![2, 9, 1024]⟩
abbrev S8x1024x352 : Shape := ⟨3, ![8, 1024, 352]⟩
abbrev S8x352x1024 : Shape := ⟨3, ![8, 352, 1024]⟩
abbrev S4x1024x352 : Shape := ⟨3, ![4, 1024, 352]⟩
abbrev S4x352x1024 : Shape := ⟨3, ![4, 352, 1024]⟩
abbrev S1x1x1024 : Shape := ⟨3, ![1, 1, 1024]⟩
abbrev S1024 : Shape := ⟨1, ![1024]⟩
abbrev S8192x1024 : Shape := ⟨2, ![8192, 1024]⟩
abbrev S512x1024 : Shape := ⟨2, ![512, 1024]⟩
abbrev S_ : Shape := ⟨0, ![]⟩
abbrev S8704x4x352 : Shape := ⟨3, ![8704, 4, 352]⟩
abbrev S4x8704x1024 : Shape := ⟨3, ![4, 8704, 1024]⟩
abbrev S1x8704x1024 : Shape := ⟨3, ![1, 8704, 1024]⟩
abbrev S1024x4x352 : Shape := ⟨3, ![1024, 4, 352]⟩
abbrev S2x2x8704x1024 : Shape := ⟨4, ![2, 2, 8704, 1024]⟩
abbrev S2x8704x1024 : Shape := ⟨3, ![2, 8704, 1024]⟩
abbrev S4x384x1024 : Shape := ⟨3, ![4, 384, 1024]⟩
abbrev S4x768x1024 : Shape := ⟨3, ![4, 768, 1024]⟩
abbrev S2x768x1024 : Shape := ⟨3, ![2, 768, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S2x9x1024, .f32⟩
  | .hbm, ⟨2, _⟩ => ⟨S8704x1024, .f32⟩
  | .hbm, ⟨3, _⟩ => ⟨S8x1024x352, .f32⟩
  | .hbm, ⟨4, _⟩ => ⟨S8x1024x352, .f32⟩
  | .hbm, ⟨5, _⟩ => ⟨S8x352x1024, .f32⟩
  | .hbm, ⟨6, _⟩ => ⟨S4x1024x352, .f32⟩
  | .hbm, ⟨7, _⟩ => ⟨S4x1024x352, .f32⟩
  | .hbm, ⟨8, _⟩ => ⟨S4x352x1024, .f32⟩
  | .hbm, ⟨9, _⟩ => ⟨S1x1x1024, .f32⟩
  | .hbm, ⟨10, _⟩ => ⟨S1024, .f32⟩
  | .hbm, ⟨11, _⟩ => ⟨S8192x1024, .f32⟩
  | .hbm, ⟨12, _⟩ => ⟨S1x1x1024, .f32⟩
  | .hbm, ⟨13, _⟩ => ⟨S1024, .f32⟩
  | .hbm, ⟨14, _⟩ => ⟨S512x1024, .f32⟩
  | .hbm, ⟨15, _⟩ => ⟨S8704x1024, .f32⟩
  | .hbm, ⟨16, _⟩ => ⟨S_, .f32⟩
  | .hbm, ⟨17, _⟩ => ⟨S8704x1024, .f32⟩
  | .hbm, ⟨18, _⟩ => ⟨S8704x1024, .f32⟩
  | .hbm, ⟨19, _⟩ => ⟨S8704x4x352, .f32⟩
  | .hbm, ⟨20, _⟩ => ⟨S8704x4x352, .f32⟩
  | .hbm, ⟨21, _⟩ => ⟨S8704x4x352, .f32⟩
  | .hbm, ⟨22, _⟩ => ⟨S_, .f32⟩
  | .hbm, ⟨23, _⟩ => ⟨S8704x4x352, .f32⟩
  | .hbm, ⟨24, _⟩ => ⟨S8704x4x352, .f32⟩
  | .hbm, ⟨25, _⟩ => ⟨S_, .f32⟩
  | .hbm, ⟨26, _⟩ => ⟨S8704x4x352, .f32⟩
  | .hbm, ⟨27, _⟩ => ⟨S8704x4x352, .f32⟩
  | .hbm, ⟨28, _⟩ => ⟨S_, .f32⟩
  | .hbm, ⟨29, _⟩ => ⟨S8704x4x352, .f32⟩
  | .hbm, ⟨30, _⟩ => ⟨S8704x4x352, .f32⟩
  | .hbm, ⟨31, _⟩ => ⟨S8704x4x352, .f32⟩
  | .hbm, ⟨32, _⟩ => ⟨S8704x4x352, .f32⟩
  | .hbm, ⟨33, _⟩ => ⟨S8704x4x352, .f32⟩
  | .hbm, ⟨34, _⟩ => ⟨S8704x4x352, .f32⟩
  | .hbm, ⟨35, _⟩ => ⟨S4x8704x1024, .f32⟩
  | .hbm, ⟨36, _⟩ => ⟨S1x8704x1024, .f32⟩
  | .hbm, ⟨37, _⟩ => ⟨S4x8704x1024, .f32⟩
  | .hbm, ⟨38, _⟩ => ⟨S4x8704x1024, .f32⟩
  | .hbm, ⟨39, _⟩ => ⟨S8704x1024, .f32⟩
  | .hbm, ⟨40, _⟩ => ⟨S1024x4x352, .f32⟩
  | .hbm, ⟨41, _⟩ => ⟨S4x352x1024, .f32⟩
  | .hbm, ⟨42, _⟩ => ⟨S8704x4x352, .f32⟩
  | .hbm, ⟨43, _⟩ => ⟨S8704x4x352, .f32⟩
  | .hbm, ⟨44, _⟩ => ⟨S8704x4x352, .f32⟩
  | .hbm, ⟨45, _⟩ => ⟨S4x352x1024, .f32⟩
  | .hbm, ⟨46, _⟩ => ⟨S4x1024x352, .f32⟩
  | .hbm, ⟨47, _⟩ => ⟨S4x8704x1024, .f32⟩
  | .hbm, ⟨48, _⟩ => ⟨S8704x4x352, .f32⟩
  | .hbm, ⟨49, _⟩ => ⟨S8704x4x352, .f32⟩
  | .hbm, ⟨50, _⟩ => ⟨S8704x4x352, .f32⟩
  | .hbm, ⟨51, _⟩ => ⟨S8704x4x352, .f32⟩
  | .hbm, ⟨52, _⟩ => ⟨S4x352x1024, .f32⟩
  | .hbm, ⟨53, _⟩ => ⟨S4x1024x352, .f32⟩
  | .hbm, ⟨54, _⟩ => ⟨S4x8704x1024, .f32⟩
  | .hbm, ⟨55, _⟩ => ⟨S4x8704x1024, .f32⟩
  | .hbm, ⟨56, _⟩ => ⟨S2x2x8704x1024, .f32⟩
  | .hbm, ⟨57, _⟩ => ⟨S_, .f32⟩
  | .hbm, ⟨58, _⟩ => ⟨S2x8704x1024, .f32⟩
  | .hbm, ⟨59, _⟩ => ⟨S4x352x1024, .f32⟩
  | .hbm, ⟨60, _⟩ => ⟨S_, .i32⟩
  | .hbm, ⟨61, _⟩ => ⟨S_, .f32⟩
  | .hbm, ⟨62, _⟩ => ⟨S4x384x1024, .f32⟩
  | .hbm, ⟨63, _⟩ => ⟨S4x352x1024, .f32⟩
  | .hbm, ⟨64, _⟩ => ⟨S_, .i32⟩
  | .hbm, ⟨65, _⟩ => ⟨S_, .f32⟩
  | .hbm, ⟨66, _⟩ => ⟨S4x384x1024, .f32⟩
  | .hbm, ⟨67, _⟩ => ⟨S4x768x1024, .f32⟩
  | .hbm, ⟨68, _⟩ => ⟨S2x8704x1024, .bf16⟩
  | .hbm, ⟨69, _⟩ => ⟨S4x768x1024, .bf16⟩
  | .hbm, ⟨70, _⟩ => ⟨S_, .i32⟩
  | .hbm, ⟨71, _⟩ => ⟨S_, .f32⟩
  | .hbm, ⟨72, _⟩ => ⟨S4x384x1024, .f32⟩
  | .hbm, ⟨73, _⟩ => ⟨S4x384x1024, .bf16⟩
  | .hbm, ⟨74, _⟩ => ⟨S2x768x1024, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_v13_2 : Ref sig .tc := ⟨.hbm, 27, rfl⟩
abbrev main_call0_cst_1 : Ref sig .tc := ⟨.hbm, 28, rfl⟩
abbrev main_call0_v6 : Ref sig .tc := ⟨.hbm, 29, rfl⟩
abbrev main_call0_v7 : Ref sig .tc := ⟨.hbm, 30, rfl⟩
abbrev main_v13_1 : Ref sig .tc := ⟨.hbm, 31, rfl⟩
abbrev main_v13_0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_0 : Ref sig .tc := ⟨.hbm, 57, rfl⟩
abbrev main_v35 : Ref sig .tc := ⟨.hbm, 58, rfl⟩
abbrev main_v36 : Ref sig .tc := ⟨.hbm, 59, rfl⟩
abbrev main_c : Ref sig .tc := ⟨.hbm, 60, rfl⟩
abbrev main_call2_v0 : Ref sig .tc := ⟨.hbm, 61, rfl⟩
abbrev main_v37 : Ref sig .tc := ⟨.hbm, 62, rfl⟩
abbrev main_v38 : Ref sig .tc := ⟨.hbm, 63, rfl⟩
abbrev main_c_1 : Ref sig .tc := ⟨.hbm, 64, rfl⟩
abbrev main_call3_v0 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_2 : Ref sig .tc := ⟨.hbm, 70, rfl⟩
abbrev main_call4_v0 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩

abbrev nD : Nat := 1
abbrev τ : Topo := Topo.v7x

variable {F : FTy → Type} [FloatOps F]
-- ==== Kernel4.lean ====
abbrev S8704x1024 : Shape := ⟨2, ![8704, 1024]⟩
abbrev S2x9x1024 : Shape := ⟨3, ![2, 9, 1024]⟩
abbrev S8x1024x352 : Shape := ⟨3, ![8, 1024, 352]⟩
abbrev S8x352x1024 : Shape := ⟨3, ![8, 352, 1024]⟩
abbrev S_ : Shape := ⟨0, ![]⟩
abbrev S8x384x1024 : Shape := ⟨3, ![8, 384, 1024]⟩
abbrev S8x768x1024 : Shape := ⟨3, ![8, 768, 1024]⟩
abbrev S4x768x1024 : Shape := ⟨3, ![4, 768, 1024]⟩
abbrev S8704x8x768 : Shape := ⟨3, ![8704, 8, 768]⟩
abbrev S8704x6144 : Shape := ⟨2, ![8704, 6144]⟩
abbrev S2x8704x1024 : Shape := ⟨3, ![2, 8704, 1024]⟩
abbrev S2x768x1024 : Shape := ⟨3, ![2, 768, 1024]⟩
abbrev S512x1024 : Shape := ⟨2, ![512, 1024]⟩
abbrev S1x9x1024 : Shape := ⟨3, ![1, 9, 1024]⟩
abbrev S512x1536 : Shape := ⟨2, ![512, 1536]⟩
abbrev S1x768x1024 : Shape := ⟨3, ![1, 768, 1024]⟩
abbrev S1x512x1024 : Shape := ⟨3, ![1, 512, 1024]⟩
abbrev S768x1024 : Shape := ⟨2, ![768, 1024]⟩
abbrev S1x1x1024 : Shape := ⟨3, ![1, 1, 1024]⟩
abbrev S1x1024 : Shape := ⟨2, ![1, 1024]⟩
abbrev S512x768 : Shape := ⟨2, ![512, 768]⟩
abbrev S512x384 : Shape := ⟨2, ![512, 384]⟩

abbrev nBuf : Space → Nat
  | .hbm => 28
  | .vmem => 20
  | .smem => 0
  | _ => 0

abbrev bufTy : (tb : Table) → Fin (tcTables nBuf tb) → BufTy
  | .hbm, ⟨0, _⟩ => ⟨S8704x1024, .f32⟩
  | .hbm, ⟨1, _⟩ => ⟨S2x9x1024, .f32⟩
  | .hbm, ⟨2, _⟩ => ⟨S8704x1024, .f32⟩
  | .hbm, ⟨3, _⟩ => ⟨S8x1024x352, .f32⟩
  | .hbm, ⟨4, _⟩ => ⟨S8x1024x352, .f32⟩
  | .hbm, ⟨5, _⟩ => ⟨S8x352x1024, .f32⟩
  | .hbm, ⟨6, _⟩ => ⟨S8x352x1024, .f32⟩
  | .hbm, ⟨7, _⟩ => ⟨S8x352x1024, .f32⟩
  | .hbm, ⟨8, _⟩ => ⟨S_, .i32⟩
  | .hbm, ⟨9, _⟩ => ⟨S_, .f32⟩
  | .hbm, ⟨10, _⟩ => ⟨S8x384x1024, .f32⟩
  | .hbm, ⟨11, _⟩ => ⟨S_, .i32⟩
  | .hbm, ⟨12, _⟩ => ⟨S_, .f32⟩
  | .hbm, ⟨13, _⟩ => ⟨S8x384x1024, .f32⟩
  | .hbm, ⟨14, _⟩ => ⟨S8x768x1024, .f32⟩
  | .hbm, ⟨15, _⟩ => ⟨S8x768x1024, .bf16⟩
  | .hbm, ⟨16, _⟩ => ⟨S_, .i32⟩
  | .hbm, ⟨17, _⟩ => ⟨S_, .f32⟩
  | .hbm, ⟨18, _⟩ => ⟨S8x384x1024, .f32⟩
  | .hbm, ⟨19, _⟩ => ⟨S8x384x1024, .bf16⟩
  | .hbm, ⟨20, _⟩ => ⟨S4x768x1024, .bf16⟩
  | .hbm, ⟨21, _⟩ => ⟨S8704x1024, .bf16⟩
  | .hbm, ⟨22, _⟩ => ⟨S8704x8x768, .f32⟩
  | .hbm, ⟨23, _⟩ => ⟨S8704x8x768, .bf16⟩
  | .hbm, ⟨24, _⟩ => ⟨S8704x6144, .bf16⟩
  | .hbm, ⟨25, _⟩ => ⟨S2x8704x1024, .bf16⟩
  | .hbm, ⟨26, _⟩ => ⟨S4x768x1024, .bf16⟩
  | .hbm, ⟨27, _⟩ => ⟨S2x768x1024, .bf16⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S512x1024, .bf16⟩
  | .local _ .vmem, ⟨5, _⟩ => ⟨S512x1024, .bf16⟩
  | .local _ .vmem, ⟨6, _⟩ => ⟨S512x1536, .bf16⟩
  | .local _ .vmem, ⟨7, _⟩ => ⟨S512x1536, .bf16⟩
  | .local _ .vmem, ⟨8, _⟩ => ⟨S2x768x1024, .bf16⟩
  | .local _ .vmem, ⟨9, _⟩ => ⟨S2x768x1024, .bf16⟩
  | .local _ .vmem, ⟨10, _⟩ => ⟨S1x768x1024, .bf16⟩
  | .local _ .vmem, ⟨11, _⟩ => ⟨S1x768x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S2x768x1024, .bf16⟩
  | .local _ .vmem, ⟨15, _⟩ => ⟨S2x768x1024, .bf16⟩
  | .local _ .vmem, ⟨16, _⟩ => ⟨S1x768x1024, .bf16⟩
  | .local _ .vmem, ⟨17, _⟩ => ⟨S1x768x1024, .bf16⟩
  | .local _ .vmem, ⟨18, _⟩ => ⟨S2x768x1024, .f32⟩
  | .local _ .vmem, ⟨19, _⟩ => ⟨S768x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_call2_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 17], ![false, false]⟩

def k0_cond2 (i : grid0.Coords) : BitVec 1 :=
  let arg1 : BitVec 32 := BitVec.ofNat 32 (i 1).val
  let c16_i32 : BitVec 32 := 16#32
  let v104 : BitVec 1 := Scalar.cmpi .eq arg1 c16_i32
  let v105 : BitVec 32 := Scalar.extui v104
  let c0_i32_53 : BitVec 32 := 0#32
  let v106 : BitVec 1 := Scalar.cmpi .ne v105 c0_i32_53
  v106

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 32 := Scalar.subi arg1 c1_i32
  let c16_i32 : BitVec 32 := 16#32
  let v2 : BitVec 32 := Scalar.select v0 c16_i32 v1
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 32 := Scalar.subi arg1 c1_i32
  let c16_i32 : BitVec 32 := 16#32
  let v2 : BitVec 32 := Scalar.select v0 c16_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 32 := Scalar.subi arg1 c1_i32
  let c16_i32 : BitVec 32 := 16#32
  let v2 : BitVec 32 := Scalar.select v0 c16_i32 v1
  let c2_i32 : BitVec 32 := 2#32
  let v3 : BitVec 32 := Scalar.addi c2_i32 arg0
  let c0_i32_0 : BitVec 32 := 0#32
  ![v2.toNat, v3.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 32 := Scalar.subi arg1 c1_i32
  let c16_i32 : BitVec 32 := 16#32
  let v2 : BitVec 32 := Scalar.select v0 c16_i32 v1
  let c0_i32_0 : BitVec 32 := 0#32
  let c0_i32_1 : BitVec 32 := 0#32
  ![arg0.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x768x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x768x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference4Ideal.lean ====
abbrev S8704x1024 : Shape := ⟨2, ![8704, 1024]⟩
abbrev S2x9x1024 : Shape := ⟨3, ![2, 9, 1024]⟩
abbrev S8x1024x352 : Shape := ⟨3, ![8, 1024, 352]⟩
abbrev S8x352x1024 : Shape := ⟨3, ![8, 352, 1024]⟩
abbrev S4x1024x352 : Shape := ⟨3, ![4, 1024, 352]⟩
abbrev S4x352x1024 : Shape := ⟨3, ![4, 352, 1024]⟩
abbrev S1x1x1024 : Shape := ⟨3, ![1, 1, 1024]⟩
abbrev S1024 : Shape := ⟨1, ![1024]⟩
abbrev S8192x1024 : Shape := ⟨2, ![8192, 1024]⟩
abbrev S512x1024 : Shape := ⟨2, ![512, 1024]⟩
abbrev S_ : Shape := ⟨0, ![]⟩
abbrev S8704x4x352 : Shape := ⟨3, ![8704, 4, 352]⟩
abbrev S4x8704x1024 : Shape := ⟨3, ![4, 8704, 1024]⟩
abbrev S1x8704x1024 : Shape := ⟨3, ![1, 8704, 1024]⟩
abbrev S1024x4x352 : Shape := ⟨3, ![1024, 4, 352]⟩
abbrev S2x2x8704x1024 : Shape := ⟨4, ![2, 2, 8704, 1024]⟩
abbrev S2x8704x1024 : Shape := ⟨3, ![2, 8704, 1024]⟩
abbrev S4x384x1024 : Shape := ⟨3, ![4, 384, 1024]⟩
abbrev S4x768x1024 : Shape := ⟨3, ![4, 768, 1024]⟩
abbrev S2x768x1024 : Shape := ⟨3, ![2, 768, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S2x9x1024, .f32⟩
  | .hbm, ⟨2, _⟩ => ⟨S8704x1024, .f32⟩
  | .hbm, ⟨3, _⟩ => ⟨S8x1024x352, .f32⟩
  | .hbm, ⟨4, _⟩ => ⟨S8x1024x352, .f32⟩
  | .hbm, ⟨5, _⟩ => ⟨S8x352x1024, .f32⟩
  | .hbm, ⟨6, _⟩ => ⟨S4x1024x352, .f32⟩
  | .hbm, ⟨7, _⟩ => ⟨S4x1024x352, .f32⟩
  | .hbm, ⟨8, _⟩ => ⟨S4x352x1024, .f32⟩
  | .hbm, ⟨9, _⟩ => ⟨S1x1x1024, .f32⟩
  | .hbm, ⟨10, _⟩ => ⟨S1024, .f32⟩
  | .hbm, ⟨11, _⟩ => ⟨S8192x1024, .f32⟩
  | .hbm, ⟨12, _⟩ => ⟨S1x1x1024, .f32⟩
  | .hbm, ⟨13, _⟩ => ⟨S1024, .f32⟩
  | .hbm, ⟨14, _⟩ => ⟨S512x1024, .f32⟩
  | .hbm, ⟨15, _⟩ => ⟨S8704x1024, .f32⟩
  | .hbm, ⟨16, _⟩ => ⟨S_, .f32⟩
  | .hbm, ⟨17, _⟩ => ⟨S8704x1024, .f32⟩
  | .hbm, ⟨18, _⟩ => ⟨S8704x1024, .f32⟩
  | .hbm, ⟨19, _⟩ => ⟨S8704x4x352, .f32⟩
  | .hbm, ⟨20, _⟩ => ⟨S8704x4x352, .f32⟩
  | .hbm, ⟨21, _⟩ => ⟨S8704x4x352, .f32⟩
  | .hbm, ⟨22, _⟩ => ⟨S_, .f32⟩
  | .hbm, ⟨23, _⟩ => ⟨S8704x4x352, .f32⟩
  | .hbm, ⟨24, _⟩ => ⟨S8704x4x352, .f32⟩
  | .hbm, ⟨25, _⟩ => ⟨S_, .f32⟩
  | .hbm, ⟨26, _⟩ => ⟨S8704x4x352, .f32⟩
  | .hbm, ⟨27, _⟩ => ⟨S8704x4x352, .f32⟩
  | .hbm, ⟨28, _⟩ => ⟨S_, .f32⟩
  | .hbm, ⟨29, _⟩ => ⟨S8704x4x352, .f32⟩
  | .hbm, ⟨30, _⟩ => ⟨S8704x4x352, .f32⟩
  | .hbm, ⟨31, _⟩ => ⟨S8704x4x352, .f32⟩
  | .hbm, ⟨32, _⟩ => ⟨S8704x4x352, .f32⟩
  | .hbm, ⟨33, _⟩ => ⟨S8704x4x352, .f32⟩
  | .hbm, ⟨34, _⟩ => ⟨S8704x4x352, .f32⟩
  | .hbm, ⟨35, _⟩ => ⟨S4x8704x1024, .f32⟩
  | .hbm, ⟨36, _⟩ => ⟨S1x8704x1024, .f32⟩
  | .hbm, ⟨37, _⟩ => ⟨S4x8704x1024, .f32⟩
  | .hbm, ⟨38, _⟩ => ⟨S4x8704x1024, .f32⟩
  | .hbm, ⟨39, _⟩ => ⟨S8704x1024, .f32⟩
  | .hbm, ⟨40, _⟩ => ⟨S1024x4x352, .f32⟩
  | .hbm, ⟨41, _⟩ => ⟨S4x352x1024, .f32⟩
  | .hbm, ⟨42, _⟩ => ⟨S8704x4x352, .f32⟩
  | .hbm, ⟨43, _⟩ => ⟨S8704x4x352, .f32⟩
  | .hbm, ⟨44, _⟩ => ⟨S8704x4x352, .f32⟩
  | .hbm, ⟨45, _⟩ => ⟨S4x352x1024, .f32⟩
  | .hbm, ⟨46, _⟩ => ⟨S4x1024x352, .f32⟩
  | .hbm, ⟨47, _⟩ => ⟨S4x8704x1024, .f32⟩
  | .hbm, ⟨48, _⟩ => ⟨S8704x4x352, .f32⟩
  | .hbm, ⟨49, _⟩ => ⟨S8704x4x352, .f32⟩
  | .hbm, ⟨50, _⟩ => ⟨S8704x4x352, .f32⟩
  | .hbm, ⟨51, _⟩ => ⟨S8704x4x352, .f32⟩
  | .hbm, ⟨52, _⟩ => ⟨S4x352x1024, .f32⟩
  | .hbm, ⟨53, _⟩ => ⟨S4x1024x352, .f32⟩
  | .hbm, ⟨54, _⟩ => ⟨S4x8704x1024, .f32⟩
  | .hbm, ⟨55, _⟩ => ⟨S4x8704x1024, .f32⟩
  | .hbm, ⟨56, _⟩ => ⟨S2x2x8704x1024, .f32⟩
  | .hbm, ⟨57, _⟩ => ⟨S_, .f32⟩
  | .hbm, ⟨58, _⟩ => ⟨S2x8704x1024, .f32⟩
  | .hbm, ⟨59, _⟩ => ⟨S4x352x1024, .f32⟩
  | .hbm, ⟨60, _⟩ => ⟨S_, .i32⟩
  | .hbm, ⟨61, _⟩ => ⟨S_, .f32⟩
  | .hbm, ⟨62, _⟩ => ⟨S4x384x1024, .f32⟩
  | .hbm, ⟨63, _⟩ => ⟨S4x352x1024, .f32⟩
  | .hbm, ⟨64, _⟩ => ⟨S_, .i32⟩
  | .hbm, ⟨65, _⟩ => ⟨S_, .f32⟩
  | .hbm, ⟨66, _⟩ => ⟨S4x384x1024, .f32⟩
  | .hbm, ⟨67, _⟩ => ⟨S4x768x1024, .f32⟩
  | .hbm, ⟨68, _⟩ => ⟨S2x8704x1024, .bf16⟩
  | .hbm, ⟨69, _⟩ => ⟨S4x768x1024, .bf16⟩
  | .hbm, ⟨70, _⟩ => ⟨S_, .i32⟩
  | .hbm, ⟨71, _⟩ => ⟨S_, .f32⟩
  | .hbm, ⟨72, _⟩ => ⟨S4x384x1024, .f32⟩
  | .hbm, ⟨73, _⟩ => ⟨S4x384x1024, .bf16⟩
  | .hbm, ⟨74, _⟩ => ⟨S2x768x1024, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_v13_2 : Ref sig .tc := ⟨.hbm, 27, rfl⟩
abbrev main_call0_cst_1 : Ref sig .tc := ⟨.hbm, 28, rfl⟩
abbrev main_call0_v6 : Ref sig .tc := ⟨.hbm, 29, rfl⟩
abbrev main_call0_v7 : Ref sig .tc := ⟨.hbm, 30, rfl⟩
abbrev main_v13_1 : Ref sig .tc := ⟨.hbm, 31, rfl⟩
abbrev main_v13_0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_0 : Ref sig .tc := ⟨.hbm, 57, rfl⟩
abbrev main_v35 : Ref sig .tc := ⟨.hbm, 58, rfl⟩
abbrev main_v36 : Ref sig .tc := ⟨.hbm, 59, rfl⟩
abbrev main_c : Ref sig .tc := ⟨.hbm, 60, rfl⟩
abbrev main_call2_v0 : Ref sig .tc := ⟨.hbm, 61, rfl⟩
abbrev main_v37 : Ref sig .tc := ⟨.hbm, 62, rfl⟩
abbrev main_v38 : Ref sig .tc := ⟨.hbm, 63, rfl⟩
abbrev main_c_1 : Ref sig .tc := ⟨.hbm, 64, rfl⟩
abbrev main_call3_v0 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_2 : Ref sig .tc := ⟨.hbm, 70, rfl⟩
abbrev main_call4_v0 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩

abbrev nD : Nat := 1
abbrev τ : Topo := Topo.v7x

variable {F : FTy → Type} [FloatOps F]
-- ==== Proof.Reals.lean ====
module

public import Idealize.ShloMosaic.Lib.Pipeline.ValueKit
public import Idealize.ShloMosaic.Lib.Pointwise

/-! Extended reals that are real numbers, and the gate of the feed-forward branch: its value and its gradient. -/

@[expose] public section

noncomputable section

open Idealize.ShloMosaic

namespace Cert.Reals

/-- The value is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (s : Finset ι) (f : ι → EReal) (h : ∀ i, IsReal (f i)) : IsReal (∑ i ∈ s, f i) := by
  classical
  induction s using Finset.induction_on with
  | empty => rw [Finset.sum_empty]; exact .zero
  | insert a s ha ih => rw [Finset.sum_insert ha]; exact (h a).add ih

/-- A value whose absolute value lies below a real number is real. -/
theorem IsReal.of_abs_le {x : EReal} {b : ℝ} (h : max x (-x) ≤ (b : EReal)) : IsReal x := by
  induction x using EReal.rec with
  | bot => exact absurd ((le_max_right _ _).trans h) (by simp)
  | top => exact absurd ((le_max_left _ _).trans h) (by simp)
  | coe r => exact ⟨r, rfl⟩

/-- The logistic function. -/
def sgm (a : EReal) : EReal := Ideal.div 1 (1 + Ideal.exp (-a))

theorem sgm_coe (a : ℝ) : sgm (a : EReal) = (((1 + Real.exp (-a))⁻¹ : ℝ) : EReal) := Ideal.logistic_coe a

theorem IsReal.sgm {a : EReal} (h : IsReal a) : IsReal (Cert.Reals.sgm a) := by
  obtain ⟨r, rfl⟩ := h
  exact ⟨_, sgm_coe r⟩

/-- The gradient of `a ↦ a · sgm a`, times the incoming `u`: factored as the kernel computes it, and expanded as
    differentiation gives it. -/
theorem silu_grad {u a : EReal} (hu : IsReal u) (ha : IsReal a) :
    u * (sgm a * (1 + a * (1 - sgm a))) = u * sgm a + a * u * (sgm a * (1 - sgm a)) := by
  obtain ⟨u, rfl⟩ := hu
  obtain ⟨a, rfl⟩ := ha
  rw [sgm_coe]
  norm_cast
  ring

end Cert.Reals

end
-- ==== Proof.Pre.lean ====
module

public import proofs.«01_k».proof.Proof.Reals
public import proofs.«01_k».proof.Proof.Gen.Pre_ffn_grad_finite
public import Idealize.ShloMosaic.Lib.ReduceAll
public import Idealize.ShloMosaic.Lib.Affine

/-! What the precondition says: every entry of every argument is a real number. -/

@[expose] public section

noncomputable section

open Idealize.ShloMosaic Cert.Reals

namespace Cert.Pre_ffn_grad_finite.Meaning

open Cert.Pre_ffn_grad_finite

instance : Subsingleton S_.Idx := ⟨fun a b => funext fun i => i.elim0⟩

theorem bound_real : ∃ b : ℝ, Ideal.ofBits .f32 0x71800000#32 = (b : EReal) := ⟨_, rfl⟩

/-- One argument's test, at one entry. -/
theorem entry {s : Shape} (x : FVec Ideal s .f32) (hb : S_.BroadcastsInDim s (![] : Fin 0 → Fin s.rank)) (i : s.Idx)
    (h : cmpf .ole (Host.absf x) (broadcastInDim s ![] hb (constant (F := Ideal) S_ .f32 0x71800000#32)) i = 1#1) : IsReal (x i) := by
  obtain ⟨b, hb⟩ := bound_real
  refine IsReal.of_abs_le (b := b) ?_
  rw [← hb]
  have h' : Ideal.cmp .ole (max (x i) (-(x i))) (Ideal.ofBits .f32 0x71800000#32) = 1#1 := h
  unfold Ideal.cmp at h'
  by_contra hn
  rw [decide_eq_false hn] at h'
  exact absurd (show (0#1 : BitVec 1) = 1#1 from h') (by decide)

theorem reals (x0 : FVec Ideal S8192x1024 .f32) (x1 : FVec Ideal S2x9x1024 .f32) (x2 : FVec Ideal S8192x1024 .f32) (x3 x4 : FVec Ideal S8x1024x352 .f32) (x5 : FVec Ideal S8x352x1024 .f32)
    (h : fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x4 i)) ∧ ∀ i, IsReal (x5 i) := by
  have e := congrFun h (Shape.Idx.first Gen.h_S_)
  dsimp only [fn, fn_part1, andi] at e
  simp only [IntOp.andi_eq_one] at e
  obtain ⟨⟨⟨⟨⟨e0, e1⟩, e2⟩, e3⟩, e4⟩, e5⟩ := e
  exact ⟨fun i => entry x0 _ i (Host.reduce_andi_all _ _ _ _ _ e0 i), fun i => entry x1 _ i (Host.reduce_andi_all _ _ _ _ _ e1 i),
    fun i => entry x2 _ i (Host.reduce_andi_all _ _ _ _ _ e2 i), fun i => entry x3 _ i (Host.reduce_andi_all _ _ _ _ _ e3 i),
    fun i => entry x4 _ i (Host.reduce_andi_all _ _ _ _ _ e4 i), fun i => entry x5 _ i (Host.reduce_andi_all _ _ _ _ _ e5 i)⟩

end Cert.Pre_ffn_grad_finite.Meaning

end
-- ==== Proof.FfnMath.lean ====
module

public import proofs.«01_k».proof.Proof.Reals

/-! The gradient of the gated feed-forward branch `y = ½·gate·((silu(h·w1) ∘ (h·w3))·w2)` at one device's shard: the
    entries of the three gradients, as differentiation gives them. `D` is the incoming gradient, `G` the gate, `H` the
    branch's input, `W1`, `W3`, `W2` the eight shards. A row is a token; the gate may differ from row to row. -/

@[expose] public section

noncomputable section

open Idealize.ShloMosaic Cert.Reals

namespace Cert.FfnMath

/-- The literal one half. -/
abbrev half : EReal := Ideal.ofBits .f32 1056964608#32

theorem half_real : IsReal half := ⟨_, rfl⟩

variable {R : ℕ} (D H G : Fin R → Fin 1024 → EReal) (W1 W3 : Fin 8 → Fin 1024 → Fin 352 → EReal)
  (W2 : Fin 8 → Fin 352 → Fin 1024 → EReal)

/-- One hidden layer's input: `h·w`. -/
def pre (W : Fin 8 → Fin 1024 → Fin 352 → EReal) (s : Fin 8) (r : Fin R) (f : Fin 352) : EReal := ∑ k, H r k * W s k f

/-- The gradient at the product of the two hidden layers. -/
def gz (s : Fin 8) (r : Fin R) (f : Fin 352) : EReal := ∑ k, half * G r k * D r k * W2 s f k

/-- The gradient at `h·w1`. -/
def ga (s : Fin 8) (r : Fin R) (f : Fin 352) : EReal :=
  gz D G W2 s r f * pre H W3 s r f * sgm (pre H W1 s r f) +
    pre H W1 s r f * (gz D G W2 s r f * pre H W3 s r f) * (sgm (pre H W1 s r f) * (1 - sgm (pre H W1 s r f)))

/-- The gradient at `h·w3`. -/
def gb (s : Fin 8) (r : Fin R) (f : Fin 352) : EReal := pre H W1 s r f * sgm (pre H W1 s r f) * gz D G W2 s r f

/-- The gradient at `h`, of one shard. -/
def dh (s : Fin 8) (r : Fin R) (k : Fin 1024) : EReal :=
  ∑ f, gb D H G W1 W2 s r f * W3 s k f + ∑ f, ga D H G W1 W3 W2 s r f * W1 s k f

/-- The gradient at `w1`. -/
def dw1 (s : Fin 8) (f : Fin 352) (k : Fin 1024) : EReal := ∑ r, ga D H G W1 W3 W2 s r f * H r k

/-- The gradient at `w3`. -/
def dw3 (s : Fin 8) (f : Fin 352) (k : Fin 1024) : EReal := ∑ r, gb D H G W1 W2 s r f * H r k

/-- The gradient at `w2`. -/
def dw2 (s : Fin 8) (f : Fin 352) (k : Fin 1024) : EReal :=
  ∑ r, half * G r k * D r k * (pre H W1 s r f * sgm (pre H W1 s r f) * pre H W3 s r f)

variable {D H G W1 W3 W2}

theorem pre_real {W : Fin 8 → Fin 1024 → Fin 352 → EReal} (hH : ∀ r k, IsReal (H r k)) (hW : ∀ s k f, IsReal (W s k f))
    (s : Fin 8) (r : Fin R) (f : Fin 352) : IsReal (pre H W s r f) := .sum _ _ fun k => (hH r k).mul (hW s k f)

theorem gz_real (hD : ∀ r k, IsReal (D r k)) (hG : ∀ r k, IsReal (G r k)) (hW : ∀ s f k, IsReal (W2 s f k))
    (s : Fin 8) (r : Fin R) (f : Fin 352) : IsReal (gz D G W2 s r f) :=
  .sum _ _ fun k => ((half_real.mul (hG r k)).mul (hD r k)).mul (hW s f k)

/-- A sum over 384 places whose last 32 terms vanish. -/
theorem sum_pad (f : Fin 384 → EReal) (g : Fin 352 → EReal) (h0 : ∀ i : Fin 384, ¬(i : ℕ) < 352 → f i = 0)
    (h1 : ∀ (i : Fin 384) (h : (i : ℕ) < 352), f i = g ⟨i, h⟩) : ∑ i, f i = ∑ i, g i := by
  rw [show ∑ i, f i = ∑ i : Fin (352 + 32), f i from rfl, Fin.sum_univ_add]
  rw [Finset.sum_eq_zero (s := (Finset.univ : Finset (Fin 32))) fun i _ => h0 _ (by simp), add_zero]
  exact Finset.sum_congr rfl fun i _ => h1 (Fin.castAdd 32 i) i.isLt

/-! The same quantities over weights padded with zero rows to 384, in the order in which the kernel multiplies. -/

variable (D H G W1 W3 W2)

/-- A padded weight of the first layer. -/
def padW (W : Fin 8 → Fin 1024 → Fin 352 → EReal) (s : Fin 8) (f : Fin 384) (k : Fin 1024) : EReal :=
  if h : (f : ℕ) < 352 then W s k ⟨f, h⟩ else 0

/-- A padded weight of the second layer. -/
def padV (s : Fin 8) (f : Fin 384) (k : Fin 1024) : EReal := if h : (f : ℕ) < 352 then W2 s ⟨f, h⟩ k else 0

/-- The logistic function with its negation spelt as a difference. -/
def sgd (a : EReal) : EReal := Ideal.div 1 (1 + Ideal.exp (0 - a))

theorem sgd_eq (a : EReal) : sgd a = sgm a := by unfold sgd sgm; rw [sub_eq_add_neg, zero_add]

def kpre (W : Fin 8 → Fin 1024 → Fin 352 → EReal) (s : Fin 8) (r : Fin R) (f : Fin 384) : EReal := ∑ k, H r k * padW W s f k

def kgz (s : Fin 8) (r : Fin R) (f : Fin 384) : EReal := ∑ k, D r k * (half * G r k) * padV W2 s f k

def kga (s : Fin 8) (r : Fin R) (f : Fin 384) : EReal :=
  kgz D G W2 s r f * kpre H W3 s r f * (sgd (kpre H W1 s r f) * (1 + kpre H W1 s r f * (1 - sgd (kpre H W1 s r f))))

def kgb (s : Fin 8) (r : Fin R) (f : Fin 384) : EReal := kgz D G W2 s r f * (kpre H W1 s r f * sgd (kpre H W1 s r f))

def kz (s : Fin 8) (r : Fin R) (f : Fin 384) : EReal := kpre H W1 s r f * sgd (kpre H W1 s r f) * kpre H W3 s r f

variable {D H G W1 W3 W2}

theorem padW_of (W : Fin 8 → Fin 1024 → Fin 352 → EReal) (s : Fin 8) {f : Fin 384} (h : (f : ℕ) < 352) (k : Fin 1024) :
    padW W s f k = W s k ⟨f, h⟩ := dif_pos h

theorem padW_zero (W : Fin 8 → Fin 1024 → Fin 352 → EReal) (s : Fin 8) {f : Fin 384} (h : ¬(f : ℕ) < 352) (k : Fin 1024) :
    padW W s f k = 0 := dif_neg h

theorem kpre_of (W : Fin 8 → Fin 1024 → Fin 352 → EReal) (s : Fin 8) (r : Fin R) {f : Fin 384} (h : (f : ℕ) < 352) :
    kpre H W s r f = pre H W s r ⟨f, h⟩ := Finset.sum_congr rfl fun k _ => by rw [padW_of W s h]

theorem kpre_zero (W : Fin 8 → Fin 1024 → Fin 352 → EReal) (s : Fin 8) (r : Fin R) {f : Fin 384} (h : ¬(f : ℕ) < 352) :
    kpre H W s r f = 0 := Finset.sum_eq_zero fun k _ => by rw [padW_zero W s h, mul_zero]

theorem kgz_of (s : Fin 8) (r : Fin R) {f : Fin 384} (h : (f : ℕ) < 352) : kgz D G W2 s r f = gz D G W2 s r ⟨f, h⟩ :=
  Finset.sum_congr rfl fun k _ => by rw [padV, dif_pos h, mul_comm (D r k)]

theorem kgz_zero (s : Fin 8) (r : Fin R) {f : Fin 384} (h : ¬(f : ℕ) < 352) : kgz D G W2 s r f = 0 :=
  Finset.sum_eq_zero fun k _ => by rw [padV, dif_neg h, mul_zero]

theorem kga_zero (s : Fin 8) (r : Fin R) {f : Fin 384} (h : ¬(f : ℕ) < 352) : kga D H G W1 W3 W2 s r f = 0 := by
  rw [kga, kgz_zero s r h, zero_mul, zero_mul]

theorem kgb_zero (s : Fin 8) (r : Fin R) {f : Fin 384} (h : ¬(f : ℕ) < 352) : kgb D H G W1 W2 s r f = 0 := by
  rw [kgb, kgz_zero s r h, zero_mul]

theorem kz_zero (s : Fin 8) (r : Fin R) {f : Fin 384} (h : ¬(f : ℕ) < 352) : kz H W1 W3 s r f = 0 := by
  rw [kz, kpre_zero W3 s r h, mul_zero]

theorem kgb_of (s : Fin 8) (r : Fin R) {f : Fin 384} (h : (f : ℕ) < 352) : kgb D H G W1 W2 s r f = gb D H G W1 W2 s r ⟨f, h⟩ := by
  rw [kgb, gb, kgz_of s r h, kpre_of W1 s r h, sgd_eq, mul_comm]

theorem kz_of (s : Fin 8) (r : Fin R) {f : Fin 384} (h : (f : ℕ) < 352) :
    kz H W1 W3 s r f = pre H W1 s r ⟨f, h⟩ * sgm (pre H W1 s r ⟨f, h⟩) * pre H W3 s r ⟨f, h⟩ := by
  rw [kz, kpre_of W1 s r h, kpre_of W3 s r h, sgd_eq]

/-- Every argument's entries are real numbers. -/
structure Reals (D H G : Fin R → Fin 1024 → EReal) (W1 W3 : Fin 8 → Fin 1024 → Fin 352 → EReal)
    (W2 : Fin 8 → Fin 352 → Fin 1024 → EReal) : Prop where
  d : ∀ r k, IsReal (D r k)
  h : ∀ r k, IsReal (H r k)
  g : ∀ r k, IsReal (G r k)
  w1 : ∀ s k f, IsReal (W1 s k f)
  w3 : ∀ s k f, IsReal (W3 s k f)
  w2 : ∀ s f k, IsReal (W2 s f k)

theorem kga_of (hr : Reals D H G W1 W3 W2) (s : Fin 8) (r : Fin R) {f : Fin 384} (h : (f : ℕ) < 352) :
    kga D H G W1 W3 W2 s r f = ga D H G W1 W3 W2 s r ⟨f, h⟩ := by
  rw [kga, ga, kgz_of s r h, kpre_of W1 s r h, kpre_of W3 s r h, sgd_eq]
  exact silu_grad ((gz_real hr.d hr.g hr.w2 s r _).mul (pre_real hr.h hr.w3 s r _)) (pre_real hr.h hr.w1 s r _)

/-- The kernel's gradient at `h`, of one shard, is the reference's. -/
theorem kdh_eq (hr : Reals D H G W1 W3 W2) (s : Fin 8) (r : Fin R) (k : Fin 1024) :
    ∑ f, kga D H G W1 W3 W2 s r f * padW W1 s f k + ∑ f, kgb D H G W1 W2 s r f * padW W3 s f k = dh D H G W1 W3 W2 s r k := by
  rw [dh, add_comm]
  refine congrArg₂ (· + ·) (sum_pad _ _ (fun f h => ?_) fun f h => ?_) (sum_pad _ _ (fun f h => ?_) fun f h => ?_)
  · rw [kgb_zero s r h, zero_mul]
  · rw [kgb_of s r h, padW_of W3 s h]
  · rw [kga_zero s r h, zero_mul]
  · rw [kga_of hr s r h, padW_of W1 s h]

/-- The kernel's gradient at a padded row of `w1`. -/
theorem kdw1_eq (hr : Reals D H G W1 W3 W2) (s : Fin 8) (f : Fin 384) (k : Fin 1024) :
    ∑ r, kga D H G W1 W3 W2 s r f * H r k = if h : (f : ℕ) < 352 then dw1 D H G W1 W3 W2 s ⟨f, h⟩ k else 0 := by
  split
  · next h => exact Finset.sum_congr rfl fun r _ => by rw [kga_of hr s r h]
  · next h => exact Finset.sum_eq_zero fun r _ => by rw [kga_zero s r h, zero_mul]

/-- The kernel's gradient at a padded row of `w3`. -/
theorem kdw3_eq (s : Fin 8) (f : Fin 384) (k : Fin 1024) :
    ∑ r, kgb D H G W1 W2 s r f * H r k = if h : (f : ℕ) < 352 then dw3 D H G W1 W2 s ⟨f, h⟩ k else 0 := by
  split
  · next h => exact Finset.sum_congr rfl fun r _ => by rw [kgb_of s r h]
  · next h => exact Finset.sum_eq_zero fun r _ => by rw [kgb_zero s r h, zero_mul]

/-- The kernel's gradient at a padded row of `w2`. -/
theorem kdw2_eq (s : Fin 8) (f : Fin 384) (k : Fin 1024) :
    ∑ r, kz H W1 W3 s r f * (D r k * (half * G r k)) = if h : (f : ℕ) < 352 then dw2 D H G W1 W3 s ⟨f, h⟩ k else 0 := by
  split
  · next h => exact Finset.sum_congr rfl fun r _ => by rw [kz_of s r h, mul_comm, mul_comm (D r k)]
  · next h => exact Finset.sum_eq_zero fun r _ => by rw [kz_zero s r h, zero_mul]

end Cert.FfnMath

end
-- ==== Proof.FfnPay.lean ====
module

public import proofs.«01_k».proof.Proof.FfnMath
public import proofs.«01_k».proof.Proof.Gen.KernelIdeal.Skeleton
public import Idealize.ShloMosaic.Lib.Claim
public import Idealize.ShloMosaic.Lib.Pipeline.ReadBack

/-! What one grid point of a feed-forward gradient call computes from its operands' blocks. The calls share their body, so
    these facts serve each of them. -/

@[expose] public section

set_option maxRecDepth 16384

noncomputable section

open Idealize.ShloMosaic Idealize.ShloMosaic.TcCoe Idealize.SL.Sem
open Cert.Reals Cert.FfnMath

namespace Cert.FfnPay

open Cert.KernelIdeal Cert.KernelIdeal.Gen

/-- The entries of a point's blocks: `b0` the incoming gradient, `b2` the branch's input, `b3` its products with the weights,
    `b4`, `b5` the weights, of the two shards `s 0` and `s 1`. -/
structure Blk (b0 b2 : S512x1024.Idx → EReal) (b3 : S512x1536.Idx → EReal) (b4 : S2x768x1024.Idx → EReal) (b5 : S1x768x1024.Idx → EReal)
    (D H : Fin 512 → Fin 1024 → EReal) (W1 W3 : Fin 8 → Fin 1024 → Fin 352 → EReal) (W2 : Fin 8 → Fin 352 → Fin 1024 → EReal)
    (s : Fin 2 → Fin 8) : Prop where
  d : ∀ n k, b0 (ix2 n k) = D n k
  h : ∀ n k, b2 (ix2 n k) = H n k
  a : ∀ n (j : Fin 1536) (q : Fin 2) (f : Fin 384), (j : ℕ) = q * 768 + f → b3 (ix2 n j) = kpre H W1 (s q) n f
  b : ∀ n (j : Fin 1536) (q : Fin 2) (f : Fin 384), (j : ℕ) = q * 768 + (384 + f) → b3 (ix2 n j) = kpre H W3 (s q) n f
  u : ∀ (q : Fin 2) (w : Fin 768) (f : Fin 384) k, (w : ℕ) = f → b4 (ix3 q w k) = padW W1 (s q) f k
  u' : ∀ (q : Fin 2) (w : Fin 768) (f : Fin 384) k, (w : ℕ) = 384 + f → b4 (ix3 q w k) = padW W3 (s q) f k
  v : ∀ (w : Fin 768) (q : Fin 2) (f : Fin 384) k, (w : ℕ) = q * 384 + f → b5 (ix3 0 w k) = padV W2 (s q) f k

variable {b0 b2 : S512x1024.Idx → EReal} {b3 : S512x1536.Idx → EReal} {b4 : S2x768x1024.Idx → EReal} {b5 : S1x768x1024.Idx → EReal}
  {D H : Fin 512 → Fin 1024 → EReal} {W1 W3 : Fin 8 → Fin 1024 → Fin 352 → EReal} {W2 : Fin 8 → Fin 352 → Fin 1024 → EReal}
  {s : Fin 2 → Fin 8} (B : Blk b0 b2 b3 b4 b5 D H W1 W3 W2 s) (g : S1x1x1024.Idx → EReal)

/-! The blocks' entries at the places where the body reads them. -/

section Entries

include B

theorem a0 (n : Fin 512) {i : ℕ} (hi : i < 384) (h : i < 1536) : b3 (ix2 n ⟨i, h⟩) = kpre H W1 (s 0) n ⟨i, hi⟩ := B.a n _ 0 ⟨i, hi⟩ (by simp)
theorem a1 (n : Fin 512) {i : ℕ} (hi : i < 384) (h : 768 + i < 1536) : b3 (ix2 n ⟨768 + i, h⟩) = kpre H W1 (s 1) n ⟨i, hi⟩ :=
  B.a n _ 1 ⟨i, hi⟩ (by simp)
theorem e0 (n : Fin 512) {i : ℕ} (hi : i < 384) (h : 384 + i < 1536) : b3 (ix2 n ⟨384 + i, h⟩) = kpre H W3 (s 0) n ⟨i, hi⟩ :=
  B.b n _ 0 ⟨i, hi⟩ (by simp)
theorem e1 (n : Fin 512) {i : ℕ} (hi : i < 384) (h : 768 + (384 + i) < 1536) : b3 (ix2 n ⟨768 + (384 + i), h⟩) = kpre H W3 (s 1) n ⟨i, hi⟩ :=
  B.b n _ 1 ⟨i, hi⟩ (by simp)
theorem v0 {i : ℕ} (hi : i < 384) (k : Fin 1024) (h : i < 768) : b5 (ix3 0 ⟨i, h⟩ k) = padV W2 (s 0) ⟨i, hi⟩ k := B.v _ 0 ⟨i, hi⟩ k (by simp)
theorem v1 {i : ℕ} (hi : i < 384) (k : Fin 1024) (h : 384 + i < 768) : b5 (ix3 0 ⟨384 + i, h⟩ k) = padV W2 (s 1) ⟨i, hi⟩ k :=
  B.v _ 1 ⟨i, hi⟩ k (by simp)
theorem u1 (q : Fin 2) (f : Fin 384) (k : Fin 1024) (h : (f : ℕ) < 768) : b4 (ix3 q ⟨f, h⟩ k) = padW W1 (s q) f k := B.u q _ f k rfl
theorem u3 (q : Fin 2) (f : Fin 384) (k : Fin 1024) (h : 384 + (f : ℕ) < 768) : b4 (ix3 q ⟨384 + f, h⟩ k) = padW W3 (s q) f k := B.u' q _ f k rfl

end Entries

variable (D H W1 W3 W2)

/-- One shard's contribution to the gradient at `h`. -/
def kdh {R : ℕ} (D H G : Fin R → Fin 1024 → EReal) (s : Fin 8) (r : Fin R) (k : Fin 1024) : EReal :=
  ∑ f, kga D H G W1 W3 W2 s r f * padW W1 s f k + ∑ f, kgb D H G W1 W2 s r f * padW W3 s f k

/-- The gradient at the two hidden layers, side by side. -/
def kab {R : ℕ} (D H G : Fin R → Fin 1024 → EReal) (s : Fin 8) (r : Fin R) (w : Fin 768) : EReal :=
  if h : (w : ℕ) < 384 then kga D H G W1 W3 W2 s r ⟨w, h⟩ else kgb D H G W1 W2 s r ⟨w - 384, by omega⟩

/-- The hidden products of two shards, side by side. -/
def kzr {R : ℕ} (H : Fin R → Fin 1024 → EReal) (s : Fin 2 → Fin 8) (r : Fin R) (w : Fin 768) : EReal :=
  if h : (w : ℕ) < 384 then kz H W1 W3 (s 0) r ⟨w, h⟩ else kz H W1 W3 (s 1) r ⟨w - 384, by omega⟩

variable {D H W1 W3 W2}

/-! The parts of the blocks that the body reads. -/

abbrev lo (b3 : Vec Ideal S512x1536 .bf16) : Vec Ideal S512x768 .bf16 :=
  View.ld (Val := Elt Ideal) (e' := .bf16) b3 (Rect.unit ![0, 0] ![512, 768] inb_S512x1536_S512x768_0_0)
abbrev hi (b3 : Vec Ideal S512x1536 .bf16) : Vec Ideal S512x768 .bf16 :=
  View.ld (Val := Elt Ideal) (e' := .bf16) b3 (Rect.unit ![0, 768] ![512, 768] inb_S512x1536_S512x768_0_768)
abbrev w_0 (b4 : Vec Ideal S2x768x1024 .bf16) : Vec Ideal S1x768x1024 .bf16 :=
  View.ld (Val := Elt Ideal) (e' := .bf16) b4 (Rect.unit ![0, 0, 0] ![1, 768, 1024] inb_S2x768x1024_S1x768x1024_0_0_0)
abbrev w_1 (b4 : Vec Ideal S2x768x1024 .bf16) : Vec Ideal S1x768x1024 .bf16 :=
  View.ld (Val := Elt Ideal) (e' := .bf16) b4 (Rect.unit ![1, 0, 0] ![1, 768, 1024] inb_S2x768x1024_S1x768x1024_1_0_0)

/-- The gradient at `h` as the body computes it. -/
abbrev dhPay (b0 : S512x1024.Idx → EReal) (b3 : S512x1536.Idx → EReal) (b4 : S2x768x1024.Idx → EReal) (b5 : S1x768x1024.Idx → EReal)
    (g : S1x1x1024.Idx → EReal) : S1x512x1024.Idx → EReal :=
  k0_pay4 (F := Ideal)
    (k0_pay22 k0_pay12 (k0_pay16 (lo b3))
      (k0_pay17 (lo b3))
      (k0_pay18 g b0 b5) (k0_pay19 g b0 b5 (lo b3))
      (k0_pay20 (lo b3))
      (FloatOps.ofBits FTy.f32 1065353216#32)
      (w_0 b4))
    (k0_pay29 (hi b3))
    (k0_pay30 (k0_pay10 g b0 b5))
    (k0_pay31 (k0_pay10 g b0 b5) (hi b3))
    (k0_pay32 (hi b3))
    (w_1 b4)

/-- What the body adds to the first shard's accumulator. -/
abbrev loPay (b0 b2 : S512x1024.Idx → EReal) (b3 : S512x1536.Idx → EReal) (b5 : S1x768x1024.Idx → EReal) (g : S1x1x1024.Idx → EReal)
    (X : S1x768x1024.Idx → EReal) : S1x768x1024.Idx → EReal :=
  k0_pay23 (F := Ideal) (k0_pay11 b2)
    (k0_pay16 (lo b3))
    (k0_pay17 (lo b3))
    (k0_pay18 g b0 b5) (k0_pay19 g b0 b5 (lo b3))
    (k0_pay20 (lo b3))
    (FloatOps.ofBits FTy.f32 1065353216#32) X

/-- What it adds to the second shard's. -/
abbrev hiPay (b0 b2 : S512x1024.Idx → EReal) (b3 : S512x1536.Idx → EReal) (b5 : S1x768x1024.Idx → EReal) (g : S1x1x1024.Idx → EReal)
    (X : S1x768x1024.Idx → EReal) : S1x768x1024.Idx → EReal :=
  k0_pay2 (F := Ideal) (k0_pay11 b2)
    (k0_pay29 (hi b3))
    (k0_pay30 (k0_pay10 g b0 b5))
    (k0_pay31 (k0_pay10 g b0 b5) (hi b3))
    (k0_pay32 (hi b3)) X

/-- What it adds to the accumulator of the second layer. -/
abbrev zzPay (b0 : S512x1024.Idx → EReal) (b3 : S512x1536.Idx → EReal) (g : S1x1x1024.Idx → EReal) (X : S768x1024.Idx → EReal) :
    S768x1024.Idx → EReal :=
  k0_pay3 (F := Ideal) (k0_pay9 g b0)
    (k0_pay24 (k0_pay15 (lo b3))
      (k0_pay17 (lo b3)))
    (k0_pay27 (hi b3))
    (k0_pay29 (hi b3)) X

include B

set_option maxHeartbeats 1600000 in
theorem dh_pay (n : Fin 512) (k : Fin 1024) : dhPay b0 b3 b4 b5 g (ix3 0 n k) =
    kdh W1 W3 W2 D H (fun _ k => g (ix3 0 0 k)) (s 0) n k + kdh W1 W3 W2 D H (fun _ k => g (ix3 0 0 k)) (s 1) n k := by
  unfold dhPay lo hi w_0 w_1
  unfold_payloads
  pointwise
  simp only [a0 B _ (Fin.isLt _), a1 B _ (Fin.isLt _), e0 B _ (Fin.isLt _), e1 B _ (Fin.isLt _), v0 B (Fin.isLt _), v1 B (Fin.isLt _), u1 B, u3 B, B.d]
  rfl

set_option maxHeartbeats 1600000 in
theorem lo_pay (X : S1x768x1024.Idx → EReal) (w : Fin 768) (k : Fin 1024) : loPay b0 b2 b3 b5 g X (ix3 0 w k) =
    (X (ix3 0 w k) + ∑ n, kab W1 W3 W2 D H (fun _ k => g (ix3 0 0 k)) (s 0) n w * H n k : EReal) := by
  unfold loPay lo
  unfold_payloads
  pointwise
  simp only [B.d, B.h, kab]
  by_cases h : (w : ℕ) < 384
  · simp only [dif_pos h, a0 B _ h, e0 B _ h, v0 B h]
    rfl
  · have h' : (w : ℕ) - 384 < 384 := by omega
    simp only [dif_neg h, a0 B _ h', e0 B _ h', v0 B h']
    rfl

set_option maxHeartbeats 1600000 in
theorem hi_pay (X : S1x768x1024.Idx → EReal) (w : Fin 768) (k : Fin 1024) : hiPay b0 b2 b3 b5 g X (ix3 0 w k) =
    (X (ix3 0 w k) + ∑ n, kab W1 W3 W2 D H (fun _ k => g (ix3 0 0 k)) (s 1) n w * H n k : EReal) := by
  unfold hiPay hi
  unfold_payloads
  pointwise
  simp only [B.d, B.h, kab]
  by_cases h : (w : ℕ) < 384
  · simp only [dif_pos h, a1 B _ h, e1 B _ h, v1 B h]
    rfl
  · have h' : (w : ℕ) - 384 < 384 := by omega
    simp only [dif_neg h, a1 B _ h', e1 B _ h', v1 B h']
    rfl

set_option maxHeartbeats 1600000 in
theorem zz_pay (X : S768x1024.Idx → EReal) (w : Fin 768) (k : Fin 1024) : zzPay b0 b3 g X (ix2 w k) =
    (X (ix2 w k) + ∑ n, kzr W1 W3 H s n w * (D n k * (half * g (ix3 0 0 k))) : EReal) := by
  unfold zzPay lo hi
  unfold_payloads
  pointwise
  simp only [B.d, kzr]
  by_cases h : (w : ℕ) < 384
  · simp only [dif_pos h, a0 B _ h, e0 B _ h]
    rfl
  · have h' : (w : ℕ) - 384 < 384 := by omega
    simp only [dif_neg h, a1 B _ h', e1 B _ h']
    rfl

omit B

/-! The sums over all rows. -/

/-- The kernel's gradients at a shard's two first weights, side by side. -/
theorem kab_sum {R : ℕ} {D H G : Fin R → Fin 1024 → EReal} {W1 W3 : Fin 8 → Fin 1024 → Fin 352 → EReal}
    {W2 : Fin 8 → Fin 352 → Fin 1024 → EReal} (hr : Reals D H G W1 W3 W2) (s : Fin 8) (w : Fin 768) (k : Fin 1024) :
    ∑ r, kab W1 W3 W2 D H G s r w * H r k =
      if _ : (w : ℕ) < 384 then if h : (w : ℕ) < 352 then dw1 D H G W1 W3 W2 s ⟨w, h⟩ k else 0
      else if h : (w : ℕ) - 384 < 352 then dw3 D H G W1 W2 s ⟨w - 384, h⟩ k else 0 := by
  by_cases h : (w : ℕ) < 384
  · simp only [kab, dif_pos h]
    exact kdw1_eq hr s ⟨w, h⟩ k
  · simp only [kab, dif_neg h]
    exact kdw3_eq s ⟨w - 384, by omega⟩ k

/-- The kernel's gradients at a pair's two second weights, side by side. -/
theorem kzr_sum {R : ℕ} {D H G : Fin R → Fin 1024 → EReal} {W1 W3 : Fin 8 → Fin 1024 → Fin 352 → EReal} (s : Fin 2 → Fin 8)
    (w : Fin 768) (k : Fin 1024) (s' : Fin 8) (hs : s ⟨(w : ℕ) / 384, by omega⟩ = s') :
    ∑ r, kzr W1 W3 H s r w * (D r k * (half * G r k)) =
      if h : (w : ℕ) % 384 < 352 then dw2 D H G W1 W3 s' ⟨w % 384, h⟩ k else 0 := by
  subst hs
  by_cases h : (w : ℕ) < 384
  · have e1 : (⟨(w : ℕ) / 384, by omega⟩ : Fin 2) = 0 := Fin.ext (by simp only [Fin.val_zero]; omega)
    have e2 : (w : ℕ) % 384 = w := by omega
    simp only [kzr, dif_pos h, e1, e2]
    exact kdw2_eq (s 0) ⟨w, h⟩ k
  · have e1 : (⟨(w : ℕ) / 384, by omega⟩ : Fin 2) = 1 := Fin.ext (by simp only [Fin.val_one]; omega)
    have e2 : (w : ℕ) % 384 = w - 384 := by omega
    simp only [kzr, dif_neg h, e1, e2]
    exact kdw2_eq (s 1) ⟨w - 384, by omega⟩ k

/-- A sum over seventeen tiles of rows, the last tile first, is the sum over the rows. -/
theorem sum_tiles (f : Fin 8704 → EReal) :
    ∑ s : Fin 17, ∑ n : Fin 512, f ⟨(s.val + 16) % 17 * 512 + n, by omega⟩ = ∑ r, f r := by
  have e : ∑ s : Fin 17, ∑ n : Fin 512, f ⟨s.val * 512 + n, by omega⟩ = ∑ r, f r :=
    Fin.sum_mul_add_congr fun s n hl => rfl
  exact (Fintype.sum_equiv (Equiv.addRight (16 : Fin 17)) _ _ fun s => rfl).trans e

/-! The four payloads at a tile of a longer array: `row` says which row of the array a row of the tile is. -/

section Tile

variable {R : ℕ} {D' H' G' : Fin R → Fin 1024 → EReal} {row : Fin 512 → Fin R}
  (C : Blk b0 b2 b3 b4 b5 (fun n => D' (row n)) (fun n => H' (row n)) W1 W3 W2 s)
  (hg : (fun (_ : Fin 512) k => (g (ix3 0 0 k) : EReal)) = fun n => G' (row n))

include C hg

theorem dh_tile (n : Fin 512) (k : Fin 1024) :
    dhPay b0 b3 b4 b5 g (ix3 0 n k) = kdh W1 W3 W2 D' H' G' (s 0) (row n) k + kdh W1 W3 W2 D' H' G' (s 1) (row n) k := by
  rw [dh_pay C g n k, hg]
  rfl

theorem lo_tile (X : S1x768x1024.Idx → EReal) (w : Fin 768) (k : Fin 1024) : loPay b0 b2 b3 b5 g X (ix3 0 w k) =
    (X (ix3 0 w k) + ∑ n, kab W1 W3 W2 D' H' G' (s 0) (row n) w * H' (row n) k : EReal) := by
  rw [lo_pay C g X w k, hg]
  rfl

theorem hi_tile (X : S1x768x1024.Idx → EReal) (w : Fin 768) (k : Fin 1024) : hiPay b0 b2 b3 b5 g X (ix3 0 w k) =
    (X (ix3 0 w k) + ∑ n, kab W1 W3 W2 D' H' G' (s 1) (row n) w * H' (row n) k : EReal) := by
  rw [hi_pay C g X w k, hg]
  rfl

theorem zz_tile (X : S768x1024.Idx → EReal) (w : Fin 768) (k : Fin 1024) : zzPay b0 b3 g X (ix2 w k) =
    (X (ix2 w k) + ∑ n, kzr W1 W3 H' s (row n) w * (D' (row n) k * (half * G' (row n) k)) : EReal) := by
  rw [zz_pay C g X w k]
  refine congrArg (X (ix2 w k) + ·) (Finset.sum_congr rfl fun n _ => ?_)
  have e : (g (ix3 0 0 k) : EReal) = G' (row n) k := congrFun (congrFun hg n) k
  rw [e]
  rfl

end Tile

/-- Two stores that fill the two slots of the accumulator leave their payloads, whatever was stored before. -/
theorem two_slots (P1 P0 : S1x768x1024.Idx → Elt Ideal .f32) (L : List (View.Piece (Elt Ideal) S2x768x1024 .f32)) (q : Fin 2) (w : Fin 768)
    (k : Fin 1024) :
    View.canon (Val := Elt Ideal) (⟨Rect.unit ![1, 0, 0] ![1, 768, 1024] inb_S2x768x1024_S1x768x1024_1_0_0, P1⟩ ::
      ⟨Rect.unit ![0, 0, 0] ![1, 768, 1024] inb_S2x768x1024_S1x768x1024_0_0_0, P0⟩ :: L) (ix3 q w k) =
        if q = 1 then P1 (ix3 0 w k) else P0 (ix3 0 w k) := by
  obtain rfl | rfl : q = 1 ∨ q = 0 := by omega
  · have e : (ix3 1 w k : S2x768x1024.Idx) =
        (Rect.unit ![1, 0, 0] ![1, 768, 1024] inb_S2x768x1024_S1x768x1024_1_0_0 : Rect S2x768x1024).emb (ix3 0 w k) := by
      funext a; apply Fin.ext; rw [Rect.emb_apply]; fin_cases a <;> simp [ix3]
    rw [if_pos rfl, e, View.canon_cons_emb]
  · have e : (ix3 0 w k : S2x768x1024.Idx) =
        (Rect.unit ![0, 0, 0] ![1, 768, 1024] inb_S2x768x1024_S1x768x1024_0_0_0 : Rect S2x768x1024).emb (ix3 0 w k) := by
      funext a; apply Fin.ext; rw [Rect.emb_apply]; fin_cases a <;> simp [ix3]
    have o : (ix3 0 w k : S2x768x1024.Idx) ∉
        (Rect.unit ![1, 0, 0] ![1, 768, 1024] inb_S2x768x1024_S1x768x1024_1_0_0 : Rect S2x768x1024).set := by
      rw [Rect.mem_set_unit]
      intro h
      have h' : 1 ≤ 0 := (h 0).1
      omega
    rw [if_neg (by decide), View.canon_cons_of_not_mem, e, View.canon_cons_emb]
    exact o

theorem pay5_apply (X : S2x768x1024.Idx → EReal) (y : S2x768x1024.Idx) : k0_pay5 (F := Ideal) X y = X y := by
  unfold k0_pay5
  pointwise

theorem pay6_apply (X : S768x1024.Idx → EReal) (w : Fin 768) (k : Fin 1024) : k0_pay6 (F := Ideal) X (ix3 0 w k) = X (ix2 w k) := by
  unfold k0_pay6
  pointwise

theorem zero7 (i : S2x768x1024.Idx) : (k0_pay7 (F := Ideal) i : EReal) = 0 := by
  unfold k0_pay7
  pointwise

theorem zero8 (i : S768x1024.Idx) : (k0_pay8 (F := Ideal) i : EReal) = 0 := by
  unfold k0_pay8
  pointwise

end Cert.FfnPay

end
-- ==== Proof.FfnBlocks.lean ====
module

public import proofs.«01_k».proof.Proof.FfnPay
public import proofs.«01_k».proof.Proof.Gen.KernelIdeal.Frame
public import Idealize.ShloMosaic.Lib.Claim

/-! What each block of the feed-forward gradient's operands holds, as entries of the arguments. -/

@[expose] public section

set_option maxRecDepth 16384

noncomputable section

open Idealize.ShloMosaic Idealize.ShloMosaic.TcCoe Idealize.SL.Sem
open Idealize.ShloMosaic.Pipeline (Dat)
open Cert.Reals Cert.FfnMath Cert.FfnPay

namespace Cert.KernelIdeal.Ffn

open Cert.KernelIdeal Cert.KernelIdeal.Gen

variable (m : (ℓ : Loc nD τ sig) → Buf (Elt Ideal) ℓ) (c : Dev nD)

/-- The six arguments as functions of coordinates. -/
abbrev D (r : Fin 8192) (k : Fin 1024) : EReal := m ((c : Thread nD τ).loc main_arg0) (ix2 r k)
abbrev G (r : Fin 8192) (k : Fin 1024) : EReal := m ((c : Thread nD τ).loc main_arg1) (ix3 1 8 k)
abbrev H (r : Fin 8192) (k : Fin 1024) : EReal := m ((c : Thread nD τ).loc main_arg2) (ix2 r k)
abbrev W1 (s : Fin 8) (k : Fin 1024) (f : Fin 352) : EReal := m ((c : Thread nD τ).loc main_arg3) (ix3 s k f)
abbrev W3 (s : Fin 8) (k : Fin 1024) (f : Fin 352) : EReal := m ((c : Thread nD τ).loc main_arg4) (ix3 s k f)
abbrev W2 (s : Fin 8) (f : Fin 352) (k : Fin 1024) : EReal := m ((c : Thread nD τ).loc main_arg5) (ix3 s f k)

/-- The windows' block indices. -/
theorem idx : ∀ t : Fin cfg0.N, win0_0.index t = ![t.val % 16, 0] ∧ win0_1.index t = ![1, 0, 0] ∧ win0_2.index t = ![t.val % 16, 0]
    ∧ win0_3.index t = ![t.val % 16, t.val / 16] ∧ win0_4.index t = ![t.val / 16, 0, 0] ∧ win0_5.index t = ![t.val / 16, 0, 0]
    ∧ win0_6.index t = ![t.val / 16, t.val % 16, 0] ∧ win0_7.index t = ![t.val / 16, 0, 0] ∧ win0_8.index t = ![t.val / 16, 0, 0] :=
  (by decide +kernel : ∀ t : Fin grid0.N, _)

theorem lt_N (t : Fin cfg0.N) : t.val < 64 := lt_of_lt_of_eq t.isLt N_0

/-- The row of the arrays that a point's block holds at row `n`. -/
def row (t : Fin cfg0.N) (n : Fin 512) : Fin 8192 := ⟨t.val % 16 * 512 + n, by omega⟩

/-- The shards of a point: `q = 0, 1`. -/
def shard (t : Fin cfg0.N) (q : Fin 2) : Fin 8 := ⟨t.val / 16 * 2 + q, by have := lt_N t; omega⟩

theorem sitofp_zero : (FloatOps.sitofp FTy.f32 0#32 : Ideal .f32) = (0 : EReal) := by
  show ((((0#32 : BitVec 32).toInt : ℝ) : EReal)) = 0
  simp

/-- The weights as the kernel holds them: transposed and padded with zero rows. -/
theorem w13_apply (s : Fin 8) (w : Fin 768) (k : Fin 1024) :
    V m c main_v5 (ix3 s w k) =
      if _ : (w : ℕ) < 384 then if h : (w : ℕ) < 352 then W1 m c s k ⟨w, h⟩ else 0
      else if h : (w : ℕ) - 384 < 352 then W3 m c s k ⟨w - 384, h⟩ else 0 := by
  simp only [V, hostOps0, hostOps0_1, hostOps0_2, hostOps0_3, hostOps0_4, hostOps0_5, hostOps0_6, List.flatten_cons, List.flatten_nil, List.cons_append, List.nil_append, List.append_nil]
  entry_read
  simp -implicitDefEqProofs only [StableHlo.TRef.toBuf, StableHlo.TRef.ofBuf, cast_cast, cast_eq]
  pointwise
  rw [sitofp_zero]

theorem w2_apply (p : Fin 4) (w : Fin 768) (k : Fin 1024) :
    V m c main_v8 (ix3 p w k) = if h : (w : ℕ) % 384 < 352 then W2 m c ⟨p * 2 + w / 384, by omega⟩ ⟨w % 384, h⟩ k else 0 := by
  simp only [V, hostOps0, hostOps0_1, hostOps0_2, hostOps0_3, hostOps0_4, hostOps0_5, hostOps0_6, List.flatten_cons, List.flatten_nil, List.cons_append, List.nil_append, List.append_nil]
  entry_read
  simp -implicitDefEqProofs only [StableHlo.TRef.toBuf, StableHlo.TRef.ofBuf, cast_cast, cast_eq]
  pointwise
  rw [sitofp_zero]
  have hp : (p : ℕ) * 2 + (w : ℕ) / 384 < 8 := by omega
  simp only [hp, true_and]

theorem ab_apply (r : Fin 8192) (j : Fin 6144) :
    V m c main_v12 (ix2 r j) = ∑ k, H m c r k * V m c main_v5 (ix3 ⟨j / 768, by omega⟩ ⟨j % 768, by omega⟩ k) := by
  simp only [V, hostOps0, hostOps0_1, hostOps0_2, hostOps0_3, hostOps0_4, hostOps0_5, hostOps0_6, List.flatten_cons, List.flatten_nil, List.cons_append, List.nil_append, List.append_nil]
  entry_read
  pointwise

theorem blk0 (t : Fin cfg0.N) (n : Fin 512) (k : Fin 1024) : iblk m c 0 t (ix2 n k) = D m c (row t n) k := by
  unfold row
  blk_point [iblk, V, idx t]

theorem blk1 (t : Fin cfg0.N) (n : Fin 512) (k : Fin 1024) : iblk m c 1 t (ix3 0 8 k) = G m c (row t n) k := by
  blk_point [iblk, V, idx t]

theorem h_apply (r : Fin 8192) (k : Fin 1024) : V m c main_v9 (ix2 r k) = H m c r k := by
  simp only [V, hostOps0, hostOps0_1, hostOps0_2, hostOps0_3, hostOps0_4, hostOps0_5, hostOps0_6, List.flatten_cons, List.flatten_nil, List.cons_append, List.nil_append, List.append_nil]
  entry_read
  pointwise

theorem blk2 (t : Fin cfg0.N) (n : Fin 512) (k : Fin 1024) : iblk m c 2 t (ix2 n k) = H m c (row t n) k := by
  refine Eq.trans ?_ (h_apply m c (row t n) k)
  unfold row
  blk_ext [iblk, idx t]

theorem blk3 (t : Fin cfg0.N) (n : Fin 512) (j : Fin 1536) :
    iblk m c 3 t (ix2 n j) = V m c main_v12 (ix2 (row t n) ⟨t.val / 16 * 1536 + j, by have := lt_N t; omega⟩) := by
  unfold row
  blk_ext [iblk, idx t]

theorem blk4 (t : Fin cfg0.N) (q : Fin 2) (w : Fin 768) (k : Fin 1024) :
    iblk m c 4 t (ix3 q w k) = V m c main_v5 (ix3 (shard t q) w k) := by
  unfold shard
  blk_ext [iblk, idx t]

theorem blk5 (t : Fin cfg0.N) (w : Fin 768) (k : Fin 1024) :
    iblk m c 5 t (ix3 0 w k) = V m c main_v8 (ix3 ⟨t.val / 16, by have := lt_N t; omega⟩ w k) := by
  blk_ext [iblk, idx t]

/-! The blocks' entries as the padded quantities. -/

theorem w1_entry (s : Fin 8) (w : Fin 768) (f : Fin 384) (k : Fin 1024) (hw : (w : ℕ) = f) :
    V m c main_v5 (ix3 s w k) = padW (W1 m c) s f k := by
  have hf := f.isLt
  rw [w13_apply, dif_pos (by omega), padW]
  simp only [hw]

theorem w3_entry (s : Fin 8) (w : Fin 768) (f : Fin 384) (k : Fin 1024) (hw : (w : ℕ) = 384 + f) :
    V m c main_v5 (ix3 s w k) = padW (W3 m c) s f k := by
  rw [w13_apply, dif_neg (by omega), padW]
  simp only [hw, Nat.add_sub_cancel_left]

theorem a_blk (t : Fin cfg0.N) (n : Fin 512) (j : Fin 1536) (q : Fin 2) (f : Fin 384) (hj : (j : ℕ) = q * 768 + f) :
    iblk m c 3 t (ix2 n j) = kpre (H m c) (W1 m c) (shard t q) (row t n) f := by
  rw [blk3, ab_apply]
  refine Fin.sum_fin_congr fun k => ?_
  have hf := f.isLt
  have e : (⟨((⟨t.val / 16 * 1536 + j, by have := lt_N t; omega⟩ : Fin 6144) : ℕ) / 768, by have := lt_N t; simp only; omega⟩ : Fin 8) = shard t q :=
    Fin.ext (by simp only [shard]; omega)
  rw [e, w1_entry m c (shard t q) _ f k (by simp only; omega)]

theorem b_blk (t : Fin cfg0.N) (n : Fin 512) (j : Fin 1536) (q : Fin 2) (f : Fin 384) (hj : (j : ℕ) = q * 768 + (384 + f)) :
    iblk m c 3 t (ix2 n j) = kpre (H m c) (W3 m c) (shard t q) (row t n) f := by
  rw [blk3, ab_apply]
  refine Fin.sum_fin_congr fun k => ?_
  have hf := f.isLt
  have e : (⟨((⟨t.val / 16 * 1536 + j, by have := lt_N t; omega⟩ : Fin 6144) : ℕ) / 768, by have := lt_N t; simp only; omega⟩ : Fin 8) = shard t q :=
    Fin.ext (by simp only [shard]; omega)
  rw [e, w3_entry m c (shard t q) _ f k (by simp only; omega)]

theorem v_blk (t : Fin cfg0.N) (w : Fin 768) (q : Fin 2) (f : Fin 384) (k : Fin 1024) (hw : (w : ℕ) = q * 384 + f) :
    iblk m c 5 t (ix3 0 w k) = padV (W2 m c) (shard t q) f k := by
  have hf := f.isLt
  have e1 : (w : ℕ) / 384 = q := by omega
  have e2 : (w : ℕ) % 384 = f := by omega
  rw [blk5, w2_apply, padV]
  simp only [e1, e2, shard]

/-- A point's blocks. -/
theorem blk (t : Fin cfg0.N) : Blk (iblk m c 0 t) (iblk m c 2 t) (iblk m c 3 t) (iblk m c 4 t) (iblk m c 5 t)
    (fun n => D m c (row t n)) (fun n => H m c (row t n)) (W1 m c) (W3 m c) (W2 m c) (shard t) where
  d := blk0 m c t
  h := blk2 m c t
  a := a_blk m c t
  b := b_blk m c t
  u q w f k hw := (blk4 m c t q w k).trans (w1_entry m c _ w f k hw)
  u' q w f k hw := (blk4 m c t q w k).trans (w3_entry m c _ w f k hw)
  v := v_blk m c t

/-- The row of the gate that a point reads. -/
abbrev gt (t : Fin cfg0.N) : Vec Ideal S1x1x1024 .f32 :=
  View.ld (Val := Elt Ideal) (e' := .f32) (iblk m c 1 t) (Rect.unit ![0, 8, 0] ![1, 1, 1024] inb_S1x9x1024_S1x1x1024_0_8_0)

theorem gt_eq (t : Fin cfg0.N) : (fun (_ : Fin 512) k => (gt m c t (ix3 0 0 k) : EReal)) = fun n => G m c (row t n) := by
  funext n k
  refine Eq.trans ?_ (blk1 m c t n k)
  unfold gt
  pointwise

end Cert.KernelIdeal.Ffn

end
-- ==== Proof.FfnStep.lean ====
module

public import proofs.«01_k».proof.Proof.FfnBlocks
public import Idealize.ShloMosaic.Lib.Pipeline.ReadBack

/-! What one grid point of the feed-forward gradient leaves in its output block and in its two accumulators. -/

@[expose] public section

set_option maxRecDepth 16384

noncomputable section

open Idealize.ShloMosaic Idealize.ShloMosaic.TcCoe Idealize.SL.Sem
open Idealize.ShloMosaic.Pipeline (Dat)
open Cert.Reals Cert.FfnMath Cert.FfnPay

namespace Cert.KernelIdeal.Ffn

open Cert.KernelIdeal Cert.KernelIdeal.Gen

variable (m : (ℓ : Loc nD τ sig) → Buf (Elt Ideal) ℓ) (c : Dev nD) (t : Fin cfg0.N)

/-- The block of the gradient at `h` that a point writes. -/
theorem out6_apply (n : Fin 512) (k : Fin 1024) : (outsAt0 m c t.val t.isLt).1 (ix3 0 n k) =
    kdh (W1 m c) (W3 m c) (W2 m c) (D m c) (H m c) (G m c) (shard t 0) (row t n) k
      + kdh (W1 m c) (W3 m c) (W2 m c) (D m c) (H m c) (G m c) (shard t 1) (row t n) k := by
  have e := dh_tile (gt m c t) (blk m c t) (gt_eq m c t) n k
  by_cases h0 : t.val % 16 = 0
  · rw [outsAt0_A m c t h0 (by omega)]
    frame_out
    exact e
  · by_cases h1 : t.val % 16 = 15
    · rw [outsAt0_C m c t h0 h1]
      frame_out
      exact e
    · rw [outsAt0_B m c t h0 h1]
      frame_out
      exact e

/-- What a point adds to the first accumulator. -/
abbrev ab (t : Fin cfg0.N) (q : Fin 2) (w : Fin 768) (k : Fin 1024) : EReal :=
  ∑ n, kab (W1 m c) (W3 m c) (W2 m c) (D m c) (H m c) (G m c) (shard t q) (row t n) w * H m c (row t n) k

/-- What a point adds to the second accumulator. -/
abbrev zz (t : Fin cfg0.N) (w : Fin 768) (k : Fin 1024) : EReal :=
  ∑ n, kzr (W1 m c) (W3 m c) (H m c) (shard t) (row t n) w * (D m c (row t n) k * (half * G m c (row t n) k))

/-- Two stores of the two shards' sums leave the sums. -/
theorem two_sums (L : List (View.Piece (Elt Ideal) S2x768x1024 .f32)) (X1 X0 : S1x768x1024.Idx → EReal) (q : Fin 2) (w : Fin 768)
    (k : Fin 1024) (X : EReal) (h1 : q = 1 → X1 (ix3 0 w k) = X) (h0 : q = 0 → X0 (ix3 0 w k) = X) :
    View.canon (Val := Elt Ideal) (⟨Rect.unit ![1, 0, 0] ![1, 768, 1024] inb_S2x768x1024_S1x768x1024_1_0_0,
        hiPay (iblk m c 0 t) (iblk m c 2 t) (iblk m c 3 t) (iblk m c 5 t) (gt m c t) X1⟩ ::
      ⟨Rect.unit ![0, 0, 0] ![1, 768, 1024] inb_S2x768x1024_S1x768x1024_0_0_0,
        loPay (iblk m c 0 t) (iblk m c 2 t) (iblk m c 3 t) (iblk m c 5 t) (gt m c t) X0⟩ :: L) (ix3 q w k) = X + ab m c t q w k := by
  rw [two_slots]
  obtain rfl | rfl : q = 1 ∨ q = 0 := by omega
  · rw [if_pos rfl, hi_tile (gt m c t) (blk m c t) (gt_eq m c t), h1 rfl]
  · rw [if_neg (by decide), lo_tile (gt m c t) (blk m c t) (gt_eq m c t), h0 rfl]

theorem acc13_reset (h0 : t.val % 16 = 0) (q : Fin 2) (w : Fin 768) (k : Fin 1024) :
    (outsAt0 m c t.val t.isLt).2.2.2.1 (ix3 q w k) = (0 : EReal) + ab m c t q w k := by
  rw [outsAt0_A m c t h0 (by omega)]
  frame_out
  simp (disch := decide) only [↓ View.readCov_skip, ↓ View.readCov_fill]
  refine two_sums m c t _ _ _ q w k _ (fun h => ?_) fun h => ?_
  · exact zero7 _
  · exact zero7 _

theorem acc13_step (h0 : ¬t.val % 16 = 0) (q : Fin 2) (w : Fin 768) (k : Fin 1024) :
    (outsAt0 m c t.val t.isLt).2.2.2.1 (ix3 q w k) =
      ((outsAt0 m c (t.val - 1) (lt_of_le_of_lt (Nat.sub_le _ _) t.isLt)).2.2.2.1 (ix3 q w k) : EReal) + ab m c t q w k := by
  by_cases h1 : t.val % 16 = 15
  · rw [outsAt0_C m c t h0 h1]
    frame_out
    simp only [read_unread_whole]
    refine two_sums m c t _ _ _ q w k _ (fun h => ?_) fun h => ?_ <;> subst h <;> pointwise
  · rw [outsAt0_B m c t h0 h1]
    frame_out
    simp only [read_unread_whole]
    refine two_sums m c t _ _ _ q w k _ (fun h => ?_) fun h => ?_ <;> subst h <;> pointwise

theorem acc2_reset (h0 : t.val % 16 = 0) (w : Fin 768) (k : Fin 1024) :
    (outsAt0 m c t.val t.isLt).2.2.2.2 (ix2 w k) = (0 : EReal) + zz m c t w k := by
  rw [outsAt0_A m c t h0 (by omega)]
  frame_out
  exact (zz_tile (gt m c t) (blk m c t) (gt_eq m c t) _ w k).trans (congrArg (· + zz m c t w k) (zero8 _))

theorem acc2_step (h0 : ¬t.val % 16 = 0) (w : Fin 768) (k : Fin 1024) :
    (outsAt0 m c t.val t.isLt).2.2.2.2 (ix2 w k) =
      ((outsAt0 m c (t.val - 1) (lt_of_le_of_lt (Nat.sub_le _ _) t.isLt)).2.2.2.2 (ix2 w k) : EReal) + zz m c t w k := by
  by_cases h1 : t.val % 16 = 15
  · rw [outsAt0_C m c t h0 h1]
    frame_out
    simp only [read_unread_whole]
    exact zz_tile (gt m c t) (blk m c t) (gt_eq m c t) _ w k
  · rw [outsAt0_B m c t h0 h1]
    frame_out
    simp only [read_unread_whole]
    exact zz_tile (gt m c t) (blk m c t) (gt_eq m c t) _ w k

end Cert.KernelIdeal.Ffn

end
-- ==== Proof.FfnRef.lean ====
module

public import proofs.«01_k».proof.Proof.FfnMath
public import proofs.«01_k».proof.Proof.Gen.ReferenceIdeal.Read

/-! The reference's three results, entry by entry. -/

@[expose] public section

set_option maxRecDepth 16384

noncomputable section

open Idealize.ShloMosaic Idealize.ShloMosaic.TcCoe Idealize.SL.Sem
open Cert.Reals Cert.FfnMath

namespace Cert.ReferenceIdeal.Ffn

open Cert.ReferenceIdeal Cert.ReferenceIdeal.Gen Cert.ReferenceIdeal.Read

variable (x0 x2 : S8192x1024.Idx → EReal) (x1 : S2x9x1024.Idx → EReal) (x3 x4 : S8x1024x352.Idx → EReal)
  (x5 : S8x352x1024.Idx → EReal)

/-- The six arguments as functions of coordinates. -/
abbrev D (r : Fin 8192) (k : Fin 1024) : EReal := x0 (ix2 r k)
abbrev G (r : Fin 8192) (k : Fin 1024) : EReal := x1 (ix3 1 8 k)
abbrev W (x : S8x1024x352.Idx → EReal) (s : Fin 8) (k : Fin 1024) (f : Fin 352) : EReal := x (ix3 s k f)
abbrev W2 (s : Fin 8) (f : Fin 352) (k : Fin 1024) : EReal := x5 (ix3 s f k)

theorem sitofp_zero : (FloatOps.sitofp FTy.f32 0#32 : Ideal .f32) = (0 : EReal) := by
  show ((((0#32 : BitVec 32).toInt : ℝ) : EReal)) = 0
  simp

set_option maxHeartbeats 1600000 in
theorem dh_apply (p : Fin 4) (r : Fin 8192) (k : Fin 1024) :
    val_main_v35 (F := Ideal) x0 x1 x2 x3 x4 x5 (ix3 p r k) =
      ∑ q : Fin 2, dh (D x0) (D x2) (G x1) (W x3) (W x4) (W2 x5) ⟨p * 2 + q, by omega⟩ r k := by
  pointwise [val_main_v0, val_main_v1, val_main_cst, val_main_v2, val_main_v3, val_main_v4, val_main_call0_v0, val_main_call0_v1, val_main_call0_cst, val_main_call0_v2, val_main_call0_v3, val_main_call0_cst_0, val_main_call0_v4, val_main_v5_2, val_main_call0_cst_1, val_main_call0_v6, val_main_call0_v7, val_main_v5_1, val_main_v5_0, val_main_v6, val_main_v7, val_main_v8, val_main_v9, val_main_v10, val_main_v11, val_main_v12, val_main_v13, val_main_v14, val_main_v15, val_main_v16, val_main_v17, val_main_v18, val_main_v19, val_main_v20, val_main_v21, val_main_v22, val_main_call1_v0, val_main_call1_v1, val_main_call1_v2, val_main_v23, val_main_v24, val_main_v25, val_main_v26, val_main_v27, val_main_v28, val_main_cst_0, val_main_v29, val_main_v30, val_main_c, val_main_call2_v0, val_main_v31, val_main_v32, val_main_c_1, val_main_call3_v0, val_main_v33, val_main_v34, val_main_v35, val_main_v36, val_main_c_2, val_main_call4_v0, val_main_v37, val_main_v38, val_main_v39]
  rfl

set_option maxHeartbeats 1600000 in
theorem dw13_apply (s : Fin 8) (w : Fin 768) (k : Fin 1024) :
    val_main_v36 (F := Ideal) x0 x1 x2 x3 x4 x5 (ix3 s w k) =
      if _ : (w : ℕ) < 384 then
        if h : (w : ℕ) < 352 then dw1 (D x0) (D x2) (G x1) (W x3) (W x4) (W2 x5) s ⟨w, h⟩ k else 0
      else if h : (w : ℕ) - 384 < 352 then dw3 (D x0) (D x2) (G x1) (W x3) (W2 x5) s ⟨w - 384, h⟩ k else 0 := by
  pointwise [val_main_v0, val_main_v1, val_main_cst, val_main_v2, val_main_v3, val_main_v4, val_main_call0_v0, val_main_call0_v1, val_main_call0_cst, val_main_call0_v2, val_main_call0_v3, val_main_call0_cst_0, val_main_call0_v4, val_main_v5_2, val_main_call0_cst_1, val_main_call0_v6, val_main_call0_v7, val_main_v5_1, val_main_v5_0, val_main_v6, val_main_v7, val_main_v8, val_main_v9, val_main_v10, val_main_v11, val_main_v12, val_main_v13, val_main_v14, val_main_v15, val_main_v16, val_main_v17, val_main_v18, val_main_v19, val_main_v20, val_main_v21, val_main_v22, val_main_call1_v0, val_main_call1_v1, val_main_call1_v2, val_main_v23, val_main_v24, val_main_v25, val_main_v26, val_main_v27, val_main_v28, val_main_cst_0, val_main_v29, val_main_v30, val_main_c, val_main_call2_v0, val_main_v31, val_main_v32, val_main_c_1, val_main_call3_v0, val_main_v33, val_main_v34, val_main_v35, val_main_v36, val_main_c_2, val_main_call4_v0, val_main_v37, val_main_v38, val_main_v39]
  rw [sitofp_zero]
  rfl

set_option maxHeartbeats 1600000 in
theorem dw2_apply (p : Fin 4) (w : Fin 768) (k : Fin 1024) :
    val_main_v39 (F := Ideal) x0 x1 x2 x3 x4 (ix3 p w k) =
      if h : (w : ℕ) % 384 < 352 then
        dw2 (D x0) (D x2) (G x1) (W x3) (W x4) ⟨p * 2 + w / 384, by omega⟩ ⟨w % 384, h⟩ k
      else 0 := by
  pointwise [val_main_v0, val_main_v1, val_main_cst, val_main_v2, val_main_v3, val_main_v4, val_main_call0_v0, val_main_call0_v1, val_main_call0_cst, val_main_call0_v2, val_main_call0_v3, val_main_call0_cst_0, val_main_call0_v4, val_main_v5_2, val_main_call0_cst_1, val_main_call0_v6, val_main_call0_v7, val_main_v5_1, val_main_v5_0, val_main_v6, val_main_v7, val_main_v8, val_main_v9, val_main_v10, val_main_v11, val_main_v12, val_main_v13, val_main_v14, val_main_v15, val_main_v16, val_main_v17, val_main_v18, val_main_v19, val_main_v20, val_main_v21, val_main_v22, val_main_call1_v0, val_main_call1_v1, val_main_call1_v2, val_main_v23, val_main_v24, val_main_v25, val_main_v26, val_main_v27, val_main_v28, val_main_cst_0, val_main_v29, val_main_v30, val_main_c, val_main_call2_v0, val_main_v31, val_main_v32, val_main_c_1, val_main_call3_v0, val_main_v33, val_main_v34, val_main_v35, val_main_v36, val_main_c_2, val_main_call4_v0, val_main_v37, val_main_v38, val_main_v39]
  rw [sitofp_zero]
  unfold dw2 pre sgm
  have hp : (p : ℕ) * 2 + (w : ℕ) / 384 < 8 := by omega
  simp only [hp, true_and]

end Cert.ReferenceIdeal.Ffn

end
-- ==== Proof.FfnFinal.lean ====
module

public import proofs.«01_k».proof.Proof.FfnStep
public import proofs.«01_k».proof.Proof.FfnRef
public import Idealize.ShloMosaic.Lib.Pipeline.ReadBack

/-! The accumulated sums over all rows, and the three result arrays of the feed-forward gradient. -/

@[expose] public section

set_option maxRecDepth 16384

noncomputable section

open Idealize.ShloMosaic Idealize.ShloMosaic.TcCoe Idealize.SL.Sem
open Idealize.ShloMosaic.Pipeline (Dat)
open Cert.Reals Cert.FfnMath Cert.FfnPay

namespace Cert.KernelIdeal.Ffn

open Cert.KernelIdeal Cert.KernelIdeal.Gen

variable (m : (ℓ : Loc nD τ sig) → Buf (Elt Ideal) ℓ) (c : Dev nD) (t : Fin cfg0.N)

theorem run_shard (hr : t.val % 16 = 15) (s : Fin 16) (q : Fin 2) :
    shard ⟨16 * (t.val / 16) + s.val, Pipeline.run_point_lt_of_flush t hr s⟩ q = shard t q :=
  Fin.ext (by simp only [shard]; omega)

theorem run_row (hr : t.val % 16 = 15) (s : Fin 16) (n : Fin 512) (hl : s.val * 512 + n.val < 8192) :
    row ⟨16 * (t.val / 16) + s.val, Pipeline.run_point_lt_of_flush t hr s⟩ n = ⟨s.val * 512 + n.val, hl⟩ :=
  Fin.ext (by simp only [row]; omega)

/-- The first accumulator at the end of a run: the sum over all rows. -/
theorem acc13_run (hr : t.val % 16 = 15) (q : Fin 2) (w : Fin 768) (k : Fin 1024) :
    (outsAt0 m c t.val t.isLt).2.2.2.1 (ix3 q w k) =
      ∑ r, kab (W1 m c) (W3 m c) (W2 m c) (D m c) (H m c) (G m c) (shard t q) r w * H m c r k := by
  have e := Pipeline.eq_sum_fin_of_reset_step_apply_of_flush
    (fun n h (i : S2x768x1024.Idx) => ((outsAt0 m c n h).2.2.2.1 i : EReal)) 16 (fun _ => (0 : EReal))
    (fun t i => ab m c t (i 0) (i 1) (i 2))
    (fun t h i => by idx_vars i; exact acc13_reset m c t h i0 i1 i2)
    (fun t h i => by idx_vars i; exact acc13_step m c t h i0 i1 i2) t hr (ix3 q w k)
  refine e.trans ?_
  rw [zero_add]
  refine Fin.sum_mul_add_congr fun s n hl => ?_
  refine Eq.trans ?_ (show kab (W1 m c) (W3 m c) (W2 m c) (D m c) (H m c) (G m c)
    (shard ⟨16 * (t.val / 16) + s.val, Pipeline.run_point_lt_of_flush t hr s⟩ q)
    (row ⟨16 * (t.val / 16) + s.val, Pipeline.run_point_lt_of_flush t hr s⟩ n) w *
      H m c (row ⟨16 * (t.val / 16) + s.val, Pipeline.run_point_lt_of_flush t hr s⟩ n) k = _ from by
    rw [run_shard t hr, run_row t hr s n hl])
  rfl

/-- The second accumulator at the end of a run. -/
theorem acc2_run (hr : t.val % 16 = 15) (w : Fin 768) (k : Fin 1024) :
    (outsAt0 m c t.val t.isLt).2.2.2.2 (ix2 w k) =
      ∑ r, kzr (W1 m c) (W3 m c) (H m c) (shard t) r w * (D m c r k * (half * G m c r k)) := by
  have e := Pipeline.eq_sum_fin_of_reset_step_apply_of_flush
    (fun n h (i : S768x1024.Idx) => ((outsAt0 m c n h).2.2.2.2 i : EReal)) 16 (fun _ => (0 : EReal))
    (fun t i => zz m c t (i 0) (i 1))
    (fun t h i => by idx_vars i; exact acc2_reset m c t h i0 i1)
    (fun t h i => by idx_vars i; exact acc2_step m c t h i0 i1) t hr (ix2 w k)
  refine e.trans ?_
  rw [zero_add]
  refine Fin.sum_mul_add_congr fun s n hl => ?_
  have es : shard ⟨16 * (t.val / 16) + s.val, Pipeline.run_point_lt_of_flush t hr s⟩ = shard t := funext (run_shard t hr s)
  refine Eq.trans ?_ (show kzr (W1 m c) (W3 m c) (H m c)
    (shard ⟨16 * (t.val / 16) + s.val, Pipeline.run_point_lt_of_flush t hr s⟩)
    (row ⟨16 * (t.val / 16) + s.val, Pipeline.run_point_lt_of_flush t hr s⟩ n) w *
      (D m c (row ⟨16 * (t.val / 16) + s.val, Pipeline.run_point_lt_of_flush t hr s⟩ n) k *
        (half * G m c (row ⟨16 * (t.val / 16) + s.val, Pipeline.run_point_lt_of_flush t hr s⟩ n) k)) = _ from by
    rw [es, run_row t hr s n hl])
  rfl

/-- What the last point of a run writes out of the first accumulator: what the stores before left there. -/
theorem read_all (L : List (View.Piece (Elt Ideal) S2x768x1024 .f32)) (y : S2x768x1024.Idx) :
    k0_pay5 ((View.whole cc0_scratch0).readCov (Val := Elt Ideal) L
      (Rect.unit ![0, 0, 0] ![2, 768, 1024] inb_S2x768x1024_S2x768x1024_0_0_0).toLoadRect) y = View.canon L y := by
  have o : (Rect.unit ![0, 0, 0] ![2, 768, 1024] inb_S2x768x1024_S2x768x1024_0_0_0 : Rect S2x768x1024).emb y = y := by
    funext a; apply Fin.ext; rw [Rect.emb_apply]; fin_cases a <;> simp
  refine (pay5_apply _ y).trans ?_
  rw [View.readCov_eq_canon']
  exact congrArg _ o

set_option maxHeartbeats 800000 in
/-- The block of the first layer's gradients that the last point of a run writes is the accumulator. -/
theorem out7_apply (hr : t.val % 16 = 15) (y : S2x768x1024.Idx) :
    (outsAt0 m c t.val t.isLt).2.1 y = (outsAt0 m c t.val t.isLt).2.2.2.1 y := by
  rw [outsAt0_C m c t (by omega) hr]
  frame_out
  exact read_all _ y

set_option maxHeartbeats 800000 in
/-- The block of the second layer's gradients likewise. -/
theorem out8_apply (hr : t.val % 16 = 15) (w : Fin 768) (k : Fin 1024) :
    (outsAt0 m c t.val t.isLt).2.2.1 (ix3 0 w k) = (outsAt0 m c t.val t.isLt).2.2.2.2 (ix2 w k) := by
  rw [outsAt0_C m c t (by omega) hr]
  frame_out
  exact pay6_apply _ w k

/-- The pair of shards of a point. -/
def pair (t : Fin cfg0.N) : Fin 4 := ⟨t.val / 16, by have := lt_N t; omega⟩

set_option maxHeartbeats 800000 in
/-- The array of the gradient at `h`. -/
theorem final6 (hr : Reals (D m c) (H m c) (G m c) (W1 m c) (W3 m c) (W2 m c)) : (dats m 0 c).arrAt 6 (cfgs 0).N =
    ReferenceIdeal.Read.val_main_v35 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  idx_vars y
  obtain rfl : y0 = 0 := Fin.ext (by omega)
  rw [out6_apply, show ((View.whole main_v13_0).slice (win0_6.rect t)).emb (ix3 0 y1 y2) = ix3 (pair t) (row t y1) y2 from by
    blk_ext [idx t, pair, row], ReferenceIdeal.Ffn.dh_apply, Fin.sum_univ_two, kdh, kdh, kdh_eq hr, kdh_eq hr]
  rfl

set_option maxHeartbeats 800000 in
/-- The array of the gradients at `w1` and `w3`. -/
theorem final7 (hr : Reals (D m c) (H m c) (G m c) (W1 m c) (W3 m c) (W2 m c)) : (dats m 0 c).arrAt 7 (cfgs 0).N =
    ReferenceIdeal.Read.val_main_v36 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  idx_vars y
  rw [out7_apply m c t ((flush0_7 t).mp hf), acc13_run m c t ((flush0_7 t).mp hf), show ((View.whole main_v13_1).slice (win0_7.rect t)).emb (ix3 y0 y1 y2) = ix3 (shard t y0) y1 y2 from by
    blk_ext [idx t, shard], ReferenceIdeal.Ffn.dw13_apply, kab_sum hr]

set_option maxHeartbeats 800000 in
/-- The array of the gradient at `w2`. -/
theorem final8 (hr : Reals (D m c) (H m c) (G m c) (W1 m c) (W3 m c) (W2 m c)) : (dats m 0 c).arrAt 8 (cfgs 0).N =
    ReferenceIdeal.Read.val_main_v39 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 8 _ (by decide +kernel) fun t hf y => ?_
  blk_simp
  rw [after0_8]
  idx_vars y
  obtain rfl : y0 = 0 := Fin.ext (by omega)
  rw [out8_apply m c t ((flush0_8 t).mp hf), acc2_run m c t ((flush0_8 t).mp hf), show ((View.whole main_v13_2).slice (win0_8.rect t)).emb (ix3 0 y1 y2) = ix3 (pair t) y1 y2 from by
    blk_ext [idx t, pair], ReferenceIdeal.Ffn.dw2_apply, kzr_sum _ _ _ _ rfl]
  rfl

end Cert.KernelIdeal.Ffn

end
-- ==== Proof.PreMix.lean ====
module

public import proofs.«01_k».proof.Proof.Pre
public import proofs.«01_k».proof.Proof.Gen.Pre_mix_grad_finite

/-! What the second precondition says: every entry of five of the arguments is a real number. -/

@[expose] public section

noncomputable section

open Idealize.ShloMosaic Cert.Reals

namespace Cert.Pre_mix_grad_finite.Meaning

open Cert.Pre_mix_grad_finite
open Cert.Pre_ffn_grad_finite.Meaning (entry)

instance : Subsingleton S_.Idx := ⟨fun a b => funext fun i => i.elim0⟩

theorem reals (x0 : FVec Ideal S8192x1024 .f32) (x1 x2 : FVec Ideal S8192x512 .f32) (x3 : FVec Ideal S2x9x1024 .f32) (x4 : FVec Ideal S512x512 .f32)
    (x5 : FVec Ideal S1x512 .f32) (x6 : FVec Ideal S512x512 .f32) (x7 : FVec Ideal S1024x1024 .f32)
    (h : fn (F := Ideal) x0 x1 x2 x3 x4 x5 x6 x7 = fun _ => 1#1) :
    (∀ i, IsReal (x0 i)) ∧ (∀ i, IsReal (x1 i)) ∧ (∀ i, IsReal (x3 i)) ∧ (∀ i, IsReal (x6 i)) ∧ ∀ i, IsReal (x7 i) := by
  have e := congrFun h (Shape.Idx.first Gen.h_S_)
  dsimp only [fn, fn_part1, andi] at e
  simp only [IntOp.andi_eq_one] at e
  obtain ⟨⟨⟨⟨e0, e1⟩, e3⟩, e6⟩, e7⟩ := e
  exact ⟨fun i => entry x0 _ i (Host.reduce_andi_all _ _ _ _ _ e0 i), fun i => entry x1 _ i (Host.reduce_andi_all _ _ _ _ _ e1 i),
    fun i => entry x3 _ i (Host.reduce_andi_all _ _ _ _ _ e3 i), fun i => entry x6 _ i (Host.reduce_andi_all _ _ _ _ _ e6 i),
    fun i => entry x7 _ i (Host.reduce_andi_all _ _ _ _ _ e7 i)⟩

end Cert.Pre_mix_grad_finite.Meaning

end
-- ==== Proof.MixMath.lean ====
module

public import proofs.«01_k».proof.Proof.FfnMath

/-! The gradient of the token mixing's second half
    `x ↦ gate ∘ (concat [(q·p) ∘ scale, y ∘ sigmoid (y·w_glu)] · w_out)` with `y = gelu ypre`: the entries of the seven
    gradients, as differentiation gives them. `X` is the incoming gradient, `Y` the mixer's output before its GELU, `Q` the
    pooled differences, `G` the gate, `P` the pooled channels' map, `S` their scale, `L` and `O` the weights `w_glu` and
    `w_out`. -/

@[expose] public section

noncomputable section

open Idealize.ShloMosaic Cert.Reals

namespace Cert.MixMath

open Cert.FfnMath (half half_real sgd sgd_eq)

/-- The literal that stands for the root of `2/π` in the GELU. -/
abbrev root : EReal := Ideal.ofBits .f32 1061962282#32

theorem root_real : IsReal root := ⟨_, rfl⟩

/-- The GELU's cubic coefficient: the ratio 44715 / 1000000. -/
abbrev cubic : EReal := Ideal.div (Ideal.ofBits .f32 1194240768#32) (Ideal.ofBits .f32 1232348160#32)

/-- The literal three. -/
abbrev three : EReal := Ideal.ofBits .f32 1077936128#32

theorem three_eq : three = ((3 : ℝ) : EReal) := by
  simp [Ideal.ofBits, Ideal.ieee, -EReal.coe_mul]
  norm_num

theorem cubic_eq : cubic = ((8943 / 200000 : ℝ) : EReal) := by
  have n : Ideal.ofBits .f32 1194240768#32 = ((44715 : ℝ) : EReal) := by
    simp [Ideal.ofBits, Ideal.ieee, -EReal.coe_mul]
    norm_num
  have d : Ideal.ofBits .f32 1232348160#32 = ((1000000 : ℝ) : EReal) := by
    simp [Ideal.ofBits, Ideal.ieee, -EReal.coe_mul]
    norm_num
  rw [cubic, n, d, Ideal.div_coe (by norm_num), ← EReal.coe_mul]
  norm_num

/-- The hyperbolic tangent of the GELU, with the cubic coefficient `c`. -/
def th (c x : EReal) : EReal := Ideal.tanh (root * (x + c * (x * x * x)))

/-- The GELU. -/
def gelu (x : EReal) : EReal := x * (half * (1 + th cubic x))

theorem th_real {c x : EReal} (hc : IsReal c) (hx : IsReal x) : IsReal (th c x) := by
  obtain ⟨r, h⟩ := root_real.mul (hx.add (hc.mul ((hx.mul hx).mul hx)))
  exact ⟨Real.tanh r, by rw [th, h, Ideal.tanh_coe]⟩

theorem cubic_real : IsReal cubic := ⟨_, cubic_eq⟩

theorem gelu_real {x : EReal} (hx : IsReal x) : IsReal (gelu x) :=
  hx.mul (half_real.mul (IsReal.one.add (th_real cubic_real hx)))

/-- The gradient at the GELU's argument `x`, of the gradient `u` at its value, as differentiation gives it. -/
def dgelu (u x : EReal) : EReal :=
  u * (half * (1 + th cubic x)) + root * (half * (x * u) * ((1 + th cubic x) * (1 - th cubic x))) +
    cubic * (root * (half * (x * u) * ((1 + th cubic x) * (1 - th cubic x)))) * (three * (x * x))

/-- The same as one product. -/
theorem dgelu_eq {u x : EReal} (hu : IsReal u) (hx : IsReal x) :
    u * (half * (1 + th cubic x) + half * x * (1 - th cubic x * th cubic x) *
      (root * (1 + ((26829 / 200000 : ℝ) : EReal) * (x * x)))) = dgelu u x := by
  obtain ⟨t, ht⟩ := th_real cubic_real hx
  obtain ⟨k, hk⟩ := root_real
  obtain ⟨h, hh⟩ := half_real
  rw [dgelu, ht, hk, hh, cubic_eq, three_eq]
  obtain ⟨u, rfl⟩ := hu
  obtain ⟨x, rfl⟩ := hx
  norm_cast
  ring

variable (X : Fin 8192 → Fin 1024 → EReal) (Y Q : Fin 8192 → Fin 512 → EReal) (G : Fin 1024 → EReal)
  (P : Fin 512 → Fin 512 → EReal) (S : Fin 512 → EReal) (L : Fin 512 → Fin 512 → EReal) (O : Fin 1024 → Fin 1024 → EReal)

/-- The mixer's output behind its GELU. -/
def yg (r : Fin 8192) (j : Fin 512) : EReal := gelu (Y r j)

/-- The gate of the mixer's output. -/
def sg (r : Fin 8192) (j : Fin 512) : EReal := sgm (∑ k, yg Y r k * L k j)

/-- The pooled differences behind their map. -/
def pq (r : Fin 8192) (j : Fin 512) : EReal := ∑ k, Q r k * P k j

/-- The two mixers' outputs, side by side. -/
def cat (r : Fin 8192) (j : Fin 1024) : EReal :=
  if h : (j : ℕ) < 512 then pq Q P r ⟨j, h⟩ * S ⟨j, h⟩ else yg Y r ⟨j - 512, by omega⟩ * sg Y L r ⟨j - 512, by omega⟩

/-- The sublayer's output before its gate. -/
def mx (r : Fin 8192) (k : Fin 1024) : EReal := ∑ j, cat Y Q P S L r j * O j k

/-- The gradient at it. -/
def dm (r : Fin 8192) (k : Fin 1024) : EReal := G k * X r k

/-- The gradient at the mixers' outputs: the pooling mixer's and the other's. -/
def dpo (r : Fin 8192) (j : Fin 512) : EReal := ∑ k, dm X G r k * O ⟨j, by omega⟩ k
def dy2 (r : Fin 8192) (j : Fin 512) : EReal := ∑ k, dm X G r k * O ⟨512 + j, by omega⟩ k

/-- The gradient at the gate. -/
def dgate (k : Fin 1024) : EReal := ∑ r, X r k * mx Y Q P S L O r k

/-- The gradient at `w_out`. -/
def dwo (j k : Fin 1024) : EReal := ∑ r, dm X G r k * cat Y Q P S L r j

/-- The gradient at the scale. -/
def dps (j : Fin 512) : EReal := ∑ r, pq Q P r j * dpo X G O r j

/-- The gradient at the pooled differences behind their map. -/
def dpp (r : Fin 8192) (j : Fin 512) : EReal := dpo X G O r j * S j

/-- The gradient at the map. -/
def dwp (i j : Fin 512) : EReal := ∑ r, dpp X G S O r j * Q r i

/-- The gradient at the pooled differences. -/
def ddp (r : Fin 8192) (i : Fin 512) : EReal := ∑ j, dpp X G S O r j * P i j

/-- The gradient at the gate's argument. -/
def dq (r : Fin 8192) (j : Fin 512) : EReal := yg Y r j * dy2 X G O r j * (sg Y L r j * (1 - sg Y L r j))

/-- The gradient at `w_glu`. -/
def dwg (i j : Fin 512) : EReal := ∑ r, dq X Y G L O r j * yg Y r i

/-- The gradient at the GELU's value. -/
def dyg (r : Fin 8192) (i : Fin 512) : EReal := dy2 X G O r i * sg Y L r i + ∑ j, dq X Y G L O r j * L i j

/-- The gradient at the mixer's output before its GELU. -/
def dyp (r : Fin 8192) (i : Fin 512) : EReal := dgelu (dyg X Y G L O r i) (Y r i)

/-- The entries on which the GELU's gradient depends are real numbers. -/
structure Reals (X : Fin 8192 → Fin 1024 → EReal) (Y : Fin 8192 → Fin 512 → EReal) (G : Fin 1024 → EReal)
    (L : Fin 512 → Fin 512 → EReal) (O : Fin 1024 → Fin 1024 → EReal) : Prop where
  x : ∀ r k, IsReal (X r k)
  y : ∀ r j, IsReal (Y r j)
  g : ∀ k, IsReal (G k)
  l : ∀ i j, IsReal (L i j)
  o : ∀ j k, IsReal (O j k)

/-- The sublayer's output, its sum over the two mixers' channels apart. -/
theorem mx_split (r : Fin 8192) (k : Fin 1024) : mx Y Q P S L O r k =
    ∑ j : Fin 512, pq Q P r j * S j * O ⟨j, by omega⟩ k + ∑ j : Fin 512, yg Y r j * sg Y L r j * O ⟨512 + j, by omega⟩ k := by
  rw [mx, show ∑ j, cat Y Q P S L r j * O j k = ∑ j : Fin (512 + 512), cat Y Q P S L r j * O j k from rfl, Fin.sum_univ_add]
  refine congrArg₂ (· + ·) (Finset.sum_congr rfl fun j _ => ?_) (Finset.sum_congr rfl fun j _ => ?_)
  · have h : ((Fin.castAdd 512 j : Fin (512 + 512)) : ℕ) < 512 := j.isLt
    rw [cat, dif_pos h]
    rfl
  · have h : ¬((Fin.natAdd 512 j : Fin (512 + 512)) : ℕ) < 512 := by simp
    have e : (⟨((Fin.natAdd 512 j : Fin (512 + 512)) : ℕ) - 512, by simp⟩ : Fin 512) = j := Fin.ext (by simp)
    rw [cat, dif_neg h, e]
    rfl

variable {X Y G L O}

theorem sub_real {x y : EReal} (hx : IsReal x) (hy : IsReal y) : IsReal (x - y) := by
  obtain ⟨a, rfl⟩ := hx
  obtain ⟨b, rfl⟩ := hy
  exact ⟨a - b, (EReal.coe_sub a b).symm⟩

theorem dyg_real (hr : Reals X Y G L O) (r : Fin 8192) (i : Fin 512) : IsReal (dyg X Y G L O r i) := by
  have hy : ∀ r j, IsReal (yg Y r j) := fun r j => gelu_real (hr.y r j)
  have hs : ∀ r j, IsReal (sg Y L r j) := fun r j => IsReal.sgm (.sum _ _ fun k => (hy r k).mul (hr.l k j))
  have hd : ∀ r j, IsReal (dy2 X G O r j) := fun r j => .sum _ _ fun k => ((hr.g k).mul (hr.x r k)).mul (hr.o _ k)
  exact ((hd r i).mul (hs r i)).add (.sum _ _ fun j =>
    (((hy r j).mul (hd r j)).mul ((hs r j).mul (sub_real .one (hs r j)))).mul (hr.l i j))

end Cert.MixMath

end
-- ==== Proof.MixBlocks.lean ====
module

public import proofs.«01_k».proof.Proof.MixMath
public import proofs.«01_k».proof.Proof.Gen.Kernel2Ideal.Frame
public import Idealize.ShloMosaic.Lib.Claim

/-! What each block of the mixing gradient's operands holds, as entries of the arguments. -/

@[expose] public section

set_option maxRecDepth 16384

noncomputable section

open Idealize.ShloMosaic Idealize.ShloMosaic.TcCoe Idealize.SL.Sem
open Idealize.ShloMosaic.Pipeline (Dat)
open Cert.Reals Cert.MixMath

namespace Cert.Kernel2Ideal.Mix

open Cert.Kernel2Ideal Cert.Kernel2Ideal.Gen

variable (m : (ℓ : Loc nD τ sig) → Buf (Elt Ideal) ℓ) (c : Dev nD)

/-- The eight arguments as functions of coordinates. -/
abbrev X (r : Fin 8192) (k : Fin 1024) : EReal := m ((c : Thread nD τ).loc main_arg0) (ix2 r k)
abbrev Y (r : Fin 8192) (j : Fin 512) : EReal := m ((c : Thread nD τ).loc main_arg1) (ix2 r j)
abbrev Q (r : Fin 8192) (j : Fin 512) : EReal := m ((c : Thread nD τ).loc main_arg2) (ix2 r j)
abbrev G (k : Fin 1024) : EReal := m ((c : Thread nD τ).loc main_arg3) (ix3 1 5 k)
abbrev P (i j : Fin 512) : EReal := m ((c : Thread nD τ).loc main_arg4) (ix2 i j)
abbrev S (j : Fin 512) : EReal := m ((c : Thread nD τ).loc main_arg5) (ix2 0 j)
abbrev L (i j : Fin 512) : EReal := m ((c : Thread nD τ).loc main_arg6) (ix2 i j)
abbrev O (j k : Fin 1024) : EReal := m ((c : Thread nD τ).loc main_arg7) (ix2 j k)

/-- The windows' block indices. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![1, 0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![0, 0] ∧ win0_13.index t = ![0, 0] ∧ win0_14.index t = ![0, 0]
    ∧ win0_15.index t = ![0, 0] ∧ win0_16.index t = ![0, 0] :=
  (by decide +kernel : ∀ t : Fin grid0.N, _)

theorem lt_N (t : Fin cfg0.N) : t.val < 16 := lt_of_lt_of_eq t.isLt N_0

/-- The row of the arrays that a point's block holds at row `n`. -/
def row (t : Fin cfg0.N) (n : Fin 512) : Fin 8192 := ⟨t.val * 512 + n, by have := lt_N t; omega⟩

theorem cat_apply (r : Fin 8192) (j : Fin 1024) :
    V m c main_v31 (ix2 r j) = cat (Y m c) (Q m c) (P m c) (S m c) (L m c) r j := by
  simp only [V, hostOps0, List.flatten_cons, List.flatten_nil, List.cons_append, List.nil_append, List.append_nil]
  entry_read
  pointwise
  rfl

theorem mix_apply (r : Fin 8192) (k : Fin 1024) :
    V m c main_v33 (ix2 r k) = mx (Y m c) (Q m c) (P m c) (S m c) (L m c) (O m c) r k := by
  refine Eq.trans ?_ (mx_split _ _ _ _ _ _ r k).symm
  simp only [V, hostOps0, List.flatten_cons, List.flatten_nil, List.cons_append, List.nil_append, List.append_nil]
  entry_read
  pointwise
  rfl

theorem p_apply (i j : Fin 512) : V m c main_v0 (ix2 i j) = P m c i j := by
  simp only [V, hostOps0, List.flatten_cons, List.flatten_nil, List.cons_append, List.nil_append, List.append_nil]
  entry_read
  pointwise

theorem l_apply (i j : Fin 512) : V m c main_v1 (ix2 i j) = L m c i j := by
  simp only [V, hostOps0, List.flatten_cons, List.flatten_nil, List.cons_append, List.nil_append, List.append_nil]
  entry_read
  pointwise

theorem o_apply (i j : Fin 1024) : V m c main_v2 (ix2 i j) = O m c i j := by
  simp only [V, hostOps0, List.flatten_cons, List.flatten_nil, List.cons_append, List.nil_append, List.append_nil]
  entry_read
  pointwise

variable (t : Fin cfg0.N)

theorem blk0 (n : Fin 512) (k : Fin 1024) : iblk m c 0 t (ix2 n k) = X m c (row t n) k := by
  unfold row
  blk_point [iblk, V, idx t]

theorem blk1 (n : Fin 512) (k : Fin 1024) :
    iblk m c 1 t (ix2 n k) = mx (Y m c) (Q m c) (P m c) (S m c) (L m c) (O m c) (row t n) k := by
  refine Eq.trans ?_ (mix_apply m c (row t n) k)
  unfold row
  blk_ext [iblk, idx t]

theorem blk2 (n : Fin 512) (j : Fin 1024) :
    iblk m c 2 t (ix2 n j) = cat (Y m c) (Q m c) (P m c) (S m c) (L m c) (row t n) j := by
  refine Eq.trans ?_ (cat_apply m c (row t n) j)
  unfold row
  blk_ext [iblk, idx t]

theorem blk3 (n j : Fin 512) : iblk m c 3 t (ix2 n j) = Y m c (row t n) j := by
  unfold row
  blk_point [iblk, V, idx t]

theorem blk4 (n j : Fin 512) : iblk m c 4 t (ix2 n j) = Q m c (row t n) j := by
  unfold row
  blk_point [iblk, V, idx t]

theorem blk5 (k : Fin 1024) : iblk m c 5 t (ix3 0 5 k) = G m c k := by
  blk_point [iblk, V, idx t]

theorem blk6 (i j : Fin 512) : iblk m c 6 t (ix2 i j) = P m c i j := by
  refine Eq.trans ?_ (p_apply m c i j)
  blk_ext [iblk, idx t]

theorem blk7 (j : Fin 512) : iblk m c 7 t (ix2 0 j) = S m c j := by
  blk_point [iblk, V, idx t]

theorem blk8 (i j : Fin 512) : iblk m c 8 t (ix2 i j) = L m c i j := by
  refine Eq.trans ?_ (l_apply m c i j)
  blk_ext [iblk, idx t]

theorem blk9 (i j : Fin 1024) : iblk m c 9 t (ix2 i j) = O m c i j := by
  refine Eq.trans ?_ (o_apply m c i j)
  blk_ext [iblk, idx t]

end Cert.Kernel2Ideal.Mix

end
-- ==== Proof.MixStep.lean ====
module

public import proofs.«01_k».proof.Proof.MixBlocks
public import Idealize.ShloMosaic.Lib.Pipeline.ReadBack

/-! What one grid point of the mixing gradient computes from its blocks, and what it leaves in its output blocks and in
    its accumulators. -/

@[expose] public section

set_option maxRecDepth 16384

noncomputable section

open Idealize.ShloMosaic Idealize.ShloMosaic.TcCoe Idealize.SL.Sem
open Idealize.ShloMosaic.Pipeline (Dat)
open Cert.Reals Cert.MixMath

namespace Cert.Kernel2Ideal.Mix

open Cert.Kernel2Ideal Cert.Kernel2Ideal.Gen

variable (m : (ℓ : Loc nD τ sig) → Buf (Elt Ideal) ℓ) (c : Dev nD) (t : Fin cfg0.N)

/-- The row of the modulation block that holds the gate. -/
abbrev gateRow : Vec Ideal S1x1x1024 .f32 :=
  View.ld (iblk m c 5 t) (Rect.unit ![0, 5, 0] ![1, 1, 1024] inb_S1x9x1024_S1x1x1024_0_5_0)

/-- The two halves of the gradient at the mixers' outputs. -/
abbrev poPay : FVec Ideal S512x512 .f32 := k0_pay13 (iblk m c 0 t) (gateRow m c t) (iblk m c 9 t)
abbrev yPay : FVec Ideal S512x512 .f32 := k0_pay14 (iblk m c 0 t) (gateRow m c t) (iblk m c 9 t)

theorem named_cubic : (Named.named κ "gelu_cubic" 0x3D372713#32 : Ideal .f32) = cubic := cubic_eq.symm

theorem named_cubic_grad : (Named.named κ "gelu_cubic_grad" 0x3E095D4F#32 : Ideal .f32) = ((26829 / 200000 : ℝ) : EReal) := rfl

theorem gateRow_apply (k : Fin 1024) : gateRow m c t (ix3 0 0 k) = G m c k := by
  unfold gateRow
  pointwise
  exact blk5 m c t k

theorem dm_pay (n : Fin 512) (k : Fin 1024) :
    k0_pay10 (iblk m c 0 t) (gateRow m c t) (ix2 n k) = dm (X m c) (G m c) (row t n) k := by
  unfold k0_pay10
  pointwise
  rw [blk0, gateRow_apply]
  exact mul_comm _ _

theorem dpo_pay (n j : Fin 512) : poPay m c t (ix2 n j) = dpo (X m c) (G m c) (O m c) (row t n) j := by
  unfold poPay k0_pay13 k0_pay11
  pointwise
  simp only [dm_pay, blk9]
  rfl

theorem dy2_pay (n j : Fin 512) : yPay m c t (ix2 n j) = dy2 (X m c) (G m c) (O m c) (row t n) j := by
  unfold yPay k0_pay14 k0_pay11
  pointwise
  simp only [dm_pay, blk9]
  rfl

theorem dpp_pay (n j : Fin 512) :
    k0_pay17 (poPay m c t) (iblk m c 7 t) (ix2 n j) = dpp (X m c) (G m c) (S m c) (O m c) (row t n) j := by
  unfold k0_pay17
  pointwise
  rw [dpo_pay, blk7]
  rfl

/-- The GELU of the block of the mixer's output. -/
abbrev ygPay : FVec Ideal S512x512 .f32 := k0_pay23 (iblk m c 3 t) (k0_pay20 (iblk m c 3 t)) (k0_pay21 (iblk m c 3 t)) k0_pay22

theorem yg_pay (n j : Fin 512) : ygPay m c t (ix2 n j) = yg (Y m c) (row t n) j := by
  unfold ygPay k0_pay23 k0_pay20 k0_pay21 k0_pay22
  pointwise
  rw [blk3, named_cubic, mul_comm FfnMath.half, mul_assoc]
  rfl

theorem sg_pay (n j : Fin 512) :
    k0_pay25 (iblk m c 3 t) (k0_pay20 (iblk m c 3 t)) (k0_pay21 (iblk m c 3 t)) k0_pay22 (iblk m c 8 t) (ix2 n j) =
      sg (Y m c) (L m c) (row t n) j := by
  unfold k0_pay25 k0_pay24
  pointwise
  simp only [yg_pay, blk8]
  exact FfnMath.sgd_eq _

theorem dq_pay (n j : Fin 512) :
    k0_pay26 (yPay m c t) (iblk m c 3 t) (k0_pay20 (iblk m c 3 t)) (k0_pay21 (iblk m c 3 t)) k0_pay22 (iblk m c 8 t) (ix2 n j) =
      dq (X m c) (Y m c) (G m c) (L m c) (O m c) (row t n) j := by
  unfold k0_pay26
  pointwise
  simp only [yg_pay, sg_pay, dy2_pay]
  rw [mul_assoc, mul_comm (dy2 _ _ _ _ _)]
  rfl

theorem dyg_pay (n j : Fin 512) :
    k0_pay27 (yPay m c t) (iblk m c 3 t) (k0_pay20 (iblk m c 3 t)) (k0_pay21 (iblk m c 3 t)) k0_pay22 (iblk m c 8 t) (iblk m c 8 t) (ix2 n j) =
      dyg (X m c) (Y m c) (G m c) (L m c) (O m c) (row t n) j := by
  unfold k0_pay27
  pointwise
  simp only [sg_pay, dy2_pay, dq_pay, blk8]
  rfl

theorem dyp_pay (hr : Reals (X m c) (Y m c) (G m c) (L m c) (O m c)) (n j : Fin 512) :
    k0_pay1 (iblk m c 3 t)
      (k0_pay27 (yPay m c t) (iblk m c 3 t) (k0_pay20 (iblk m c 3 t)) (k0_pay21 (iblk m c 3 t)) k0_pay22 (iblk m c 8 t) (iblk m c 8 t))
      (k0_pay29 (iblk m c 3 t)) (ix2 n j) = dyp (X m c) (Y m c) (G m c) (L m c) (O m c) (row t n) j := by
  unfold k0_pay1 k0_pay29
  pointwise
  rw [dyg_pay, blk3, named_cubic, named_cubic_grad]
  exact dgelu_eq (dyg_real hr _ _) (hr.y _ _)

theorem ddp_pay (n j : Fin 512) :
    k0_pay18 (poPay m c t) (iblk m c 7 t) (iblk m c 6 t) (ix2 n j) = ddp (X m c) (G m c) (P m c) (S m c) (O m c) (row t n) j := by
  unfold k0_pay18
  pointwise
  simp only [dpp_pay, blk6]
  rfl

theorem dgate_pay (A : S1x1024.Idx → EReal) (k : Fin 1024) :
    k0_pay9 (iblk m c 0 t) A (iblk m c 1 t) (ix2 0 k) =
      A (ix2 0 k) + ∑ n, X m c (row t n) k * mx (Y m c) (Q m c) (P m c) (S m c) (L m c) (O m c) (row t n) k := by
  unfold k0_pay9
  pointwise
  simp only [blk0, blk1]

theorem dwo_pay (A : S1024x1024.Idx → EReal) (j k : Fin 1024) :
    k0_pay12 (iblk m c 0 t) (gateRow m c t) A (iblk m c 2 t) (ix2 j k) =
      A (ix2 j k) + ∑ n, dm (X m c) (G m c) (row t n) k * cat (Y m c) (Q m c) (P m c) (S m c) (L m c) (row t n) j := by
  unfold k0_pay12
  pointwise
  simp only [dm_pay, blk2]
  exact congrArg _ (Finset.sum_congr rfl fun n _ => mul_comm _ _)

theorem dps_pay (A : S1x512.Idx → EReal) (j : Fin 512) :
    k0_pay16 (poPay m c t) (iblk m c 4 t) (iblk m c 6 t) A (ix2 0 j) =
      A (ix2 0 j) + ∑ n, pq (Q m c) (P m c) (row t n) j * dpo (X m c) (G m c) (O m c) (row t n) j := by
  unfold k0_pay16 k0_pay15
  pointwise
  simp only [dpo_pay, blk4, blk6]
  exact congrArg _ (Finset.sum_congr rfl fun n _ => mul_comm _ _)

theorem dwp_pay (A : S512x512.Idx → EReal) (i j : Fin 512) :
    k0_pay19 (poPay m c t) (iblk m c 4 t) (iblk m c 7 t) A (ix2 i j) =
      A (ix2 i j) + ∑ n, dpp (X m c) (G m c) (S m c) (O m c) (row t n) j * Q m c (row t n) i := by
  unfold k0_pay19 k0_pay15
  pointwise
  simp only [dpp_pay, blk4]
  exact congrArg _ (Finset.sum_congr rfl fun n _ => mul_comm _ _)

theorem dwg_pay (A : S512x512.Idx → EReal) (i j : Fin 512) :
    k0_pay28 (yPay m c t) (iblk m c 3 t) (k0_pay20 (iblk m c 3 t)) (k0_pay21 (iblk m c 3 t)) k0_pay22 (iblk m c 8 t) A (ix2 i j) =
      A (ix2 i j) + ∑ n, dq (X m c) (Y m c) (G m c) (L m c) (O m c) (row t n) j * yg (Y m c) (row t n) i := by
  unfold k0_pay28 k0_pay24
  pointwise
  simp only [dq_pay, yg_pay]
  exact congrArg _ (Finset.sum_congr rfl fun n _ => mul_comm _ _)

end Cert.Kernel2Ideal.Mix

end
-- ==== Proof.MixAcc.lean ====
module

public import proofs.«01_k».proof.Proof.MixStep
public import Idealize.ShloMosaic.Lib.Pipeline.ReadBack

/-! The five accumulators of the mixing gradient: one step, and their sums over all rows. -/

@[expose] public section

set_option maxRecDepth 16384

noncomputable section

open Idealize.ShloMosaic Idealize.ShloMosaic.TcCoe Idealize.SL.Sem
open Idealize.ShloMosaic.Pipeline (Dat)
open Cert.Reals Cert.MixMath

namespace Cert.Kernel2Ideal.Mix

open Cert.Kernel2Ideal Cert.Kernel2Ideal.Gen

variable (m : (ℓ : Loc nD τ sig) → Buf (Elt Ideal) ℓ) (c : Dev nD) (t : Fin cfg0.N)

theorem run_row (hr : t.val % 16 = 15) (s : Fin 16) (n : Fin 512) (hl : s.val * 512 + n.val < 8192) :
    row ⟨16 * (t.val / 16) + s.val, Pipeline.run_point_lt_of_flush t hr s⟩ n = ⟨s.val * 512 + n.val, hl⟩ :=
  Fin.ext (by have := lt_N t; simp only [row]; omega)

/-- A value that starts each run at the point's own rows and grows by them ends as the sum over all rows. -/
theorem run_sum {s : Shape} (acc : ∀ n, n < cfg0.N → s.Idx → EReal) (f : s.Idx → Fin 8192 → EReal)
    (hA : ∀ t : Fin cfg0.N, t.val % 16 = 0 → ∀ i, acc t.val t.isLt i = 0 + ∑ n, f i (row t n))
    (hB : ∀ t : Fin cfg0.N, ¬t.val % 16 = 0 → ∀ i,
      acc t.val t.isLt i = acc (t.val - 1) (lt_of_le_of_lt (Nat.sub_le _ _) t.isLt) i + ∑ n, f i (row t n))
    (hr : t.val % 16 = 15) (i : s.Idx) : acc t.val t.isLt i = ∑ r, f i r := by
  have e := Pipeline.eq_sum_fin_of_reset_step_apply_of_flush acc 16 (fun _ => (0 : EReal)) (fun t i => ∑ n, f i (row t n)) hA hB t hr i
  refine e.trans ?_
  rw [zero_add]
  refine Fin.sum_mul_add_congr fun s n hl => ?_
  have key : f i (row ⟨16 * (t.val / 16) + s.val, Pipeline.run_point_lt_of_flush t hr s⟩ n) = f i ⟨s.val * 512 + n.val, hl⟩ := by
    rw [run_row t hr s n hl]
  exact key

theorem zero4 (i : S1024x1024.Idx) : (k0_pay4 (F := Ideal) i : EReal) = 0 := by
  unfold k0_pay4
  pointwise
theorem zero5 (i : S512x512.Idx) : (k0_pay5 (F := Ideal) i : EReal) = 0 := by
  unfold k0_pay5
  pointwise
theorem zero6 (i : S512x512.Idx) : (k0_pay6 (F := Ideal) i : EReal) = 0 := by
  unfold k0_pay6
  pointwise
theorem zero7 (i : S1x512.Idx) : (k0_pay7 (F := Ideal) i : EReal) = 0 := by
  unfold k0_pay7
  pointwise
theorem zero8 (i : S1x1024.Idx) : (k0_pay8 (F := Ideal) i : EReal) = 0 := by
  unfold k0_pay8
  pointwise

theorem dwo_run (hr : t.val % 16 = 15) (j k : Fin 1024) :
    (outsAt0 m c t.val t.isLt).2.2.2.2.2.2.2.1 (ix2 j k) = dwo (X m c) (Y m c) (Q m c) (G m c) (P m c) (S m c) (L m c) j k := by
  refine run_sum t (fun n h (i : S1024x1024.Idx) => ((outsAt0 m c n h).2.2.2.2.2.2.2.1 i : EReal))
    (fun i r => dm (X m c) (G m c) r (i 1) * cat (Y m c) (Q m c) (P m c) (S m c) (L m c) r (i 0)) (fun t h i => ?_) (fun t h i => ?_) hr (ix2 j k)
  · idx_vars i
    rw [outsAt0_A m c t h (by omega)]
    frame_out
    refine (dwo_pay m c t _ i0 i1).trans ?_
    rw [zero4]
  · idx_vars i
    by_cases h1 : t.val % 16 = 15
    · rw [outsAt0_C m c t h h1]
      frame_out
      simp only [read_unread_whole]
      exact dwo_pay m c t _ i0 i1
    · rw [outsAt0_B m c t h h1]
      frame_out
      simp only [read_unread_whole]
      exact dwo_pay m c t _ i0 i1

theorem dwg_run (hr : t.val % 16 = 15) (j k : Fin 512) :
    (outsAt0 m c t.val t.isLt).2.2.2.2.2.2.2.2 (ix2 j k) = dwg (X m c) (Y m c) (G m c) (L m c) (O m c) j k := by
  refine run_sum t (fun n h (i : S512x512.Idx) => ((outsAt0 m c n h).2.2.2.2.2.2.2.2 i : EReal))
    (fun i r => dq (X m c) (Y m c) (G m c) (L m c) (O m c) r (i 1) * yg (Y m c) r (i 0)) (fun t h i => ?_) (fun t h i => ?_) hr (ix2 j k)
  · idx_vars i
    rw [outsAt0_A m c t h (by omega)]
    frame_out
    refine (dwg_pay m c t _ i0 i1).trans ?_
    rw [zero5]
  · idx_vars i
    by_cases h1 : t.val % 16 = 15
    · rw [outsAt0_C m c t h h1]
      frame_out
      simp only [read_unread_whole]
      exact dwg_pay m c t _ i0 i1
    · rw [outsAt0_B m c t h h1]
      frame_out
      simp only [read_unread_whole]
      exact dwg_pay m c t _ i0 i1

theorem dwp_run (hr : t.val % 16 = 15) (j k : Fin 512) :
    (outsAt0 m c t.val t.isLt).2.2.2.2.1 (ix2 j k) = dwp (X m c) (Q m c) (G m c) (S m c) (O m c) j k := by
  refine run_sum t (fun n h (i : S512x512.Idx) => ((outsAt0 m c n h).2.2.2.2.1 i : EReal))
    (fun i r => dpp (X m c) (G m c) (S m c) (O m c) r (i 1) * Q m c r (i 0)) (fun t h i => ?_) (fun t h i => ?_) hr (ix2 j k)
  · idx_vars i
    rw [outsAt0_A m c t h (by omega)]
    frame_out
    refine (dwp_pay m c t _ i0 i1).trans ?_
    rw [zero6]
  · idx_vars i
    by_cases h1 : t.val % 16 = 15
    · rw [outsAt0_C m c t h h1]
      frame_out
      exact dwp_pay m c t _ i0 i1
    · rw [outsAt0_B m c t h h1]
      frame_out
      exact dwp_pay m c t _ i0 i1

theorem dps_run (hr : t.val % 16 = 15) (j : Fin 512) :
    (outsAt0 m c t.val t.isLt).2.2.2.2.2.1 (ix2 0 j) = dps (X m c) (Q m c) (G m c) (P m c) (O m c) j := by
  refine run_sum t (fun n h (i : S1x512.Idx) => ((outsAt0 m c n h).2.2.2.2.2.1 i : EReal))
    (fun i r => pq (Q m c) (P m c) r (i 1) * dpo (X m c) (G m c) (O m c) r (i 1)) (fun t h i => ?_) (fun t h i => ?_) hr (ix2 0 j)
  · idx_vars i
    obtain rfl : i0 = 0 := Fin.ext (by omega)
    rw [outsAt0_A m c t h (by omega)]
    frame_out
    refine (dps_pay m c t _ i1).trans ?_
    rw [zero7]
  · idx_vars i
    obtain rfl : i0 = 0 := Fin.ext (by omega)
    by_cases h1 : t.val % 16 = 15
    · rw [outsAt0_C m c t h h1]
      frame_out
      exact dps_pay m c t _ i1
    · rw [outsAt0_B m c t h h1]
      frame_out
      exact dps_pay m c t _ i1

theorem dgate_run (hr : t.val % 16 = 15) (k : Fin 1024) :
    (outsAt0 m c t.val t.isLt).2.2.2.2.2.2.1 (ix2 0 k) = dgate (X m c) (Y m c) (Q m c) (P m c) (S m c) (L m c) (O m c) k := by
  refine run_sum t (fun n h (i : S1x1024.Idx) => ((outsAt0 m c n h).2.2.2.2.2.2.1 i : EReal))
    (fun i r => X m c r (i 1) * mx (Y m c) (Q m c) (P m c) (S m c) (L m c) (O m c) r (i 1)) (fun t h i => ?_) (fun t h i => ?_) hr (ix2 0 k)
  · idx_vars i
    obtain rfl : i0 = 0 := Fin.ext (by omega)
    rw [outsAt0_A m c t h (by omega)]
    frame_out
    refine (dgate_pay m c t _ i1).trans ?_
    rw [zero8]
  · idx_vars i
    obtain rfl : i0 = 0 := Fin.ext (by omega)
    by_cases h1 : t.val % 16 = 15
    · rw [outsAt0_C m c t h h1]
      frame_out
      exact dgate_pay m c t _ i1
    · rw [outsAt0_B m c t h h1]
      frame_out
      exact dgate_pay m c t _ i1

/-- The block of the gradient at the mixer's output that a point writes. -/
theorem out10_apply (hr : Reals (X m c) (Y m c) (G m c) (L m c) (O m c)) (n j : Fin 512) :
    (outsAt0 m c t.val t.isLt).1 (ix2 n j) = dyp (X m c) (Y m c) (G m c) (L m c) (O m c) (row t n) j := by
  by_cases h0 : t.val % 16 = 0
  · rw [outsAt0_A m c t h0 (by omega)]
    frame_out
    exact dyp_pay m c t hr n j
  · by_cases h1 : t.val % 16 = 15
    · rw [outsAt0_C m c t h0 h1]
      frame_out
      exact dyp_pay m c t hr n j
    · rw [outsAt0_B m c t h0 h1]
      frame_out
      exact dyp_pay m c t hr n j

/-- The block of the gradient at the pooled differences that a point writes. -/
theorem out11_apply (n j : Fin 512) :
    (outsAt0 m c t.val t.isLt).2.1 (ix2 n j) = ddp (X m c) (G m c) (P m c) (S m c) (O m c) (row t n) j := by
  by_cases h0 : t.val % 16 = 0
  · rw [outsAt0_A m c t h0 (by omega)]
    frame_out
    exact ddp_pay m c t n j
  · by_cases h1 : t.val % 16 = 15
    · rw [outsAt0_C m c t h0 h1]
      frame_out
      exact ddp_pay m c t n j
    · rw [outsAt0_B m c t h0 h1]
      frame_out
      exact ddp_pay m c t n j

theorem pay2_apply (A : S1024x1024.Idx → EReal) (i : S1024x1024.Idx) : k0_pay2 (F := Ideal) A i = A i := by
  unfold k0_pay2
  pointwise

theorem pay3_apply (A : S512x512.Idx → EReal) (i : S512x512.Idx) : k0_pay3 (F := Ideal) A i = A i := by
  unfold k0_pay3
  pointwise

/-- The last point writes the first scratch accumulator out. -/
theorem out12_apply (hr : t.val % 16 = 15) (i : S1024x1024.Idx) :
    (outsAt0 m c t.val t.isLt).2.2.1 i = (outsAt0 m c t.val t.isLt).2.2.2.2.2.2.2.1 i := by
  rw [outsAt0_C m c t (by omega) hr]
  frame_out
  exact pay2_apply _ i

/-- And the second. -/
theorem out13_apply (hr : t.val % 16 = 15) (i : S512x512.Idx) :
    (outsAt0 m c t.val t.isLt).2.2.2.1 i = (outsAt0 m c t.val t.isLt).2.2.2.2.2.2.2.2 i := by
  rw [outsAt0_C m c t (by omega) hr]
  frame_out
  exact pay3_apply _ i

end Cert.Kernel2Ideal.Mix

end
-- ==== Proof.MixRef.lean ====
module

public import proofs.«01_k».proof.Proof.MixMath
public import proofs.«01_k».proof.Proof.Gen.Reference2Ideal.Read

/-! The reference's seven results, entry by entry. -/

@[expose] public section

set_option maxRecDepth 16384

noncomputable section

open Idealize.ShloMosaic Idealize.ShloMosaic.TcCoe Idealize.SL.Sem
open Cert.Reals Cert.MixMath

namespace Cert.Reference2Ideal.Mix

open Cert.Reference2Ideal Cert.Reference2Ideal.Gen Cert.Reference2Ideal.Read

variable (x0 : S8192x1024.Idx → EReal) (x1 x2 : S8192x512.Idx → EReal) (x3 : S2x9x1024.Idx → EReal) (x4 x6 : S512x512.Idx → EReal)
  (x5 : S1x512.Idx → EReal) (x7 : S1024x1024.Idx → EReal)

/-- The eight arguments as functions of coordinates. -/
abbrev X (r : Fin 8192) (k : Fin 1024) : EReal := x0 (ix2 r k)
abbrev Y (x : S8192x512.Idx → EReal) (r : Fin 8192) (j : Fin 512) : EReal := x (ix2 r j)
abbrev G (k : Fin 1024) : EReal := x3 (ix3 1 5 k)
abbrev P (x : S512x512.Idx → EReal) (i j : Fin 512) : EReal := x (ix2 i j)
abbrev S (j : Fin 512) : EReal := x5 (ix2 0 j)
abbrev O (j k : Fin 1024) : EReal := x7 (ix2 j k)

theorem v13_apply (r : Fin 8192) (j : Fin 512) : val_main_v13 (F := Ideal) x1 (ix2 r j) = th cubic (Y x1 r j) := by
  pointwise [val_main_cst, val_main_cst_0, val_main_v2, val_main_v3, val_main_v4, val_main_v8, val_main_v9, val_main_v10, val_main_cst_2, val_main_v11, val_main_v12, val_main_v13]
  rfl

theorem v22_apply (r : Fin 8192) (j : Fin 512) : val_main_v22 (F := Ideal) x1 (ix2 r j) = FfnMath.half * (1 + th cubic (Y x1 r j)) := by
  pointwise [val_main_cst_5, val_main_v19, val_main_v20, val_main_cst_6, val_main_v21, val_main_v22]
  rw [v13_apply]

theorem yg_apply (r : Fin 8192) (j : Fin 512) : val_main_v23 (F := Ideal) x1 (ix2 r j) = yg (Y x1) r j := by
  pointwise [val_main_v23]
  rw [v22_apply]
  rfl

theorem sg_apply (r : Fin 8192) (j : Fin 512) : val_main_v30 (F := Ideal) x1 x6 (ix2 r j) = sg (Y x1) (P x6) r j := by
  pointwise [val_main_v24, val_main_v25, val_main_v26, val_main_cst_7, val_main_v27, val_main_v28, val_main_cst_8, val_main_v29, val_main_v30]
  simp only [yg_apply]
  rfl

theorem pq_apply (r : Fin 8192) (j : Fin 512) : val_main_v35 (F := Ideal) x2 x4 (ix2 r j) = pq (Y x2) (P x4) r j := by
  pointwise [val_main_v35]
  rfl

theorem cat_apply (r : Fin 8192) (j : Fin 1024) :
    val_main_v38 (F := Ideal) x1 x2 x4 x5 x6 (ix2 r j) = cat (Y x1) (Y x2) (P x4) (S x5) (P x6) r j := by
  pointwise [val_main_v38, val_main_v37, val_main_v36, val_main_v34]
  simp only [pq_apply, yg_apply, sg_apply]
  rfl

theorem mx_apply (r : Fin 8192) (k : Fin 1024) :
    val_main_v39 (F := Ideal) x1 x2 x4 x5 x6 x7 (ix2 r k) = mx (Y x1) (Y x2) (P x4) (S x5) (P x6) (O x7) r k := by
  pointwise [val_main_v39]
  simp only [cat_apply]
  rfl

theorem dm_apply (r : Fin 8192) (k : Fin 1024) : val_main_v43 (F := Ideal) x0 x3 (ix2 r k) = dm (X x0) (G x3) r k := by
  pointwise [val_main_v43, val_main_v42, val_main_v1, val_main_v0]
  rfl

theorem dpo_apply (r : Fin 8192) (j : Fin 512) : val_main_v50 (F := Ideal) x0 x3 x7 (ix2 r j) = dpo (X x0) (G x3) (O x7) r j := by
  pointwise [val_main_v50, val_main_v49]
  simp only [dm_apply]
  rfl

theorem dy2_apply (r : Fin 8192) (j : Fin 512) : val_main_v51 (F := Ideal) x0 x3 x7 (ix2 r j) = dy2 (X x0) (G x3) (O x7) r j := by
  pointwise [val_main_v51, val_main_v49]
  simp only [dm_apply]
  rfl

theorem dgate_apply (k : Fin 1024) :
    val_main_v46 (F := Ideal) x0 x1 x2 x4 x5 x6 x7 (ix2 0 k) = dgate (X x0) (Y x1) (Y x2) (P x4) (S x5) (P x6) (O x7) k := by
  pointwise [val_main_v46, val_main_v45, val_main_cst_10, val_main_v44]
  simp only [mx_apply]
  rfl

theorem dwo_apply (j k : Fin 1024) :
    val_main_v79 (F := Ideal) x0 x1 x2 x3 x4 x5 x6 (ix2 j k) = dwo (X x0) (Y x1) (Y x2) (G x3) (P x4) (S x5) (P x6) j k := by
  pointwise [val_main_v79, val_main_v48, val_main_v47]
  simp only [dm_apply, cat_apply]
  rfl

theorem dps_apply (j : Fin 512) :
    val_main_v54 (F := Ideal) x0 x2 x3 x4 x7 (ix2 0 j) = dps (X x0) (Y x2) (G x3) (P x4) (O x7) j := by
  pointwise [val_main_v54, val_main_v53, val_main_cst_11, val_main_v52]
  simp only [pq_apply, dpo_apply]
  rfl

theorem dpp_apply (r : Fin 8192) (j : Fin 512) :
    val_main_v56 (F := Ideal) x0 x3 x5 x7 (ix2 r j) = dpp (X x0) (G x3) (S x5) (O x7) r j := by
  pointwise [val_main_v56, val_main_v55]
  rw [dpo_apply]
  rfl

theorem dwp_apply (i j : Fin 512) :
    val_main_v58 (F := Ideal) x0 x2 x3 x5 x7 (ix2 i j) = dwp (X x0) (Y x2) (G x3) (S x5) (O x7) i j := by
  pointwise [val_main_v58, val_main_v57]
  simp only [dpp_apply]
  rfl

theorem ddp_apply (r : Fin 8192) (i : Fin 512) :
    val_main_v59 (F := Ideal) x0 x3 x4 x5 x7 (ix2 r i) = ddp (X x0) (G x3) (P x4) (S x5) (O x7) r i := by
  pointwise [val_main_v59]
  simp only [dpp_apply]
  rfl

theorem dq_apply (r : Fin 8192) (j : Fin 512) :
    val_main_v62 (F := Ideal) x0 x1 x3 x6 x7 (ix2 r j) = dq (X x0) (Y x1) (G x3) (P x6) (O x7) r j := by
  pointwise [val_main_v62, val_main_v60, val_main_v33, val_main_v32, val_main_v31, val_main_cst_9]
  rw [yg_apply, dy2_apply, sg_apply]
  rfl

theorem dwg_apply (i j : Fin 512) :
    val_main_v80 (F := Ideal) x0 x1 x3 x6 x7 (ix2 i j) = dwg (X x0) (Y x1) (G x3) (P x6) (O x7) i j := by
  pointwise [val_main_v80, val_main_v64, val_main_v63]
  simp only [dq_apply, yg_apply]
  rfl

theorem dyg_apply (r : Fin 8192) (j : Fin 512) :
    val_main_v66 (F := Ideal) x0 x1 x3 x6 x7 (ix2 r j) = dyg (X x0) (Y x1) (G x3) (P x6) (O x7) r j := by
  pointwise [val_main_v66, val_main_v65, val_main_v61]
  simp only [dq_apply, dy2_apply, sg_apply]
  rfl

theorem dyp_apply (r : Fin 8192) (j : Fin 512) :
    val_main_v78 (F := Ideal) x0 x1 x3 x6 x7 (ix2 r j) = dyp (X x0) (Y x1) (G x3) (P x6) (O x7) r j := by
  pointwise [val_main_v78, val_main_v77, val_main_v76, val_main_v75, val_main_v74, val_main_v73, val_main_cst_13, val_main_v72, val_main_v71, val_main_v70, val_main_cst_12, val_main_v69, val_main_v68, val_main_v67, val_main_v18, val_main_v17, val_main_v16, val_main_cst_4, val_main_v15, val_main_v14, val_main_cst_3, val_main_v7, val_main_v5, val_main_v6, val_main_cst_1, val_main_v2, val_main_cst, val_main_cst_0]
  simp only [dyg_apply, v22_apply, v13_apply]
  rfl

end Cert.Reference2Ideal.Mix

end
-- ==== Proof.MixFinal.lean ====
module

public import proofs.«01_k».proof.Proof.MixAcc
public import proofs.«01_k».proof.Proof.MixRef
public import Idealize.ShloMosaic.Lib.Pipeline.ReadBack

/-! The seven result arrays of the mixing gradient. -/

@[expose] public section

set_option maxRecDepth 16384

noncomputable section

open Idealize.ShloMosaic Idealize.ShloMosaic.TcCoe Idealize.SL.Sem
open Idealize.ShloMosaic.Pipeline (Dat)
open Cert.Reals Cert.MixMath

namespace Cert.Kernel2Ideal.Mix

open Cert.Kernel2Ideal Cert.Kernel2Ideal.Gen

variable (m : (ℓ : Loc nD τ sig) → Buf (Elt Ideal) ℓ) (c : Dev nD)

set_option maxHeartbeats 800000 in
/-- The array of the gradient at the mixer's output. -/
theorem final10 (hr : Reals (X m c) (Y m c) (G m c) (L m c) (O m c)) : (dats m 0 c).arrAt 10 (cfgs 0).N =
    Reference2Ideal.Read.val_main_v78 (F := Ideal) (m ((c : Thread nD τ).loc main_arg0)) (m ((c : Thread nD τ).loc main_arg1)) (m ((c : Thread nD τ).loc main_arg3)) (m ((c : Thread nD τ).loc main_arg6)) (m ((c : Thread nD τ).loc main_arg7)) := by
  refine (dats m 0 c).arrAt_eq_of_covers 10 _ (by decide +kernel) fun t hf y => ?_
  blk_simp
  rw [after0_10]
  idx_vars y
  rw [out10_apply m c t hr, show ((View.whole main_v34_0).slice (win0_10.rect t)).emb (ix2 y0 y1) = ix2 (row t y0) y1 from by
    blk_ext [idx t, row], Reference2Ideal.Mix.dyp_apply]

set_option maxHeartbeats 800000 in
/-- The array of the gradient at the pooled differences. -/
theorem final11 : (dats m 0 c).arrAt 11 (cfgs 0).N =
    Reference2Ideal.Read.val_main_v59 (F := Ideal) (m ((c : Thread nD τ).loc main_arg0)) (m ((c : Thread nD τ).loc main_arg3)) (m ((c : Thread nD τ).loc main_arg4)) (m ((c : Thread nD τ).loc main_arg5)) (m ((c : Thread nD τ).loc main_arg7)) := by
  refine (dats m 0 c).arrAt_eq_of_covers 11 _ (by decide +kernel) fun t hf y => ?_
  blk_simp
  rw [after0_11]
  idx_vars y
  rw [out11_apply m c t, show ((View.whole main_v34_1).slice (win0_11.rect t)).emb (ix2 y0 y1) = ix2 (row t y0) y1 from by
    blk_ext [idx t, row], Reference2Ideal.Mix.ddp_apply]

set_option maxHeartbeats 800000 in
/-- The array of the gradient at the output map. -/
theorem final12 : (dats m 0 c).arrAt 12 (cfgs 0).N =
    Reference2Ideal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t hf y => ?_
  blk_simp
  rw [after0_12]
  idx_vars y
  rw [out12_apply m c t ((flush0_12 t).mp hf), dwo_run m c t ((flush0_12 t).mp hf), show ((View.whole main_v34_2).slice (win0_12.rect t)).emb (ix2 y0 y1) = ix2 y0 y1 from by
    blk_ext [idx t, row], Reference2Ideal.Mix.dwo_apply]

set_option maxHeartbeats 800000 in
/-- The array of the gradient at the gate's map. -/
theorem final13 : (dats m 0 c).arrAt 13 (cfgs 0).N =
    Reference2Ideal.Read.val_main_v80 (F := Ideal) (m ((c : Thread nD τ).loc main_arg0)) (m ((c : Thread nD τ).loc main_arg1)) (m ((c : Thread nD τ).loc main_arg3)) (m ((c : Thread nD τ).loc main_arg6)) (m ((c : Thread nD τ).loc main_arg7)) := by
  refine (dats m 0 c).arrAt_eq_of_covers 13 _ (by decide +kernel) fun t hf y => ?_
  blk_simp
  rw [after0_13]
  idx_vars y
  rw [out13_apply m c t ((flush0_13 t).mp hf), dwg_run m c t ((flush0_13 t).mp hf), show ((View.whole main_v34_3).slice (win0_13.rect t)).emb (ix2 y0 y1) = ix2 y0 y1 from by
    blk_ext [idx t, row], Reference2Ideal.Mix.dwg_apply]

set_option maxHeartbeats 800000 in
/-- The array of the gradient at the pooling map. -/
theorem final14 : (dats m 0 c).arrAt 14 (cfgs 0).N =
    Reference2Ideal.Read.val_main_v58 (F := Ideal) (m ((c : Thread nD τ).loc main_arg0)) (m ((c : Thread nD τ).loc main_arg2)) (m ((c : Thread nD τ).loc main_arg3)) (m ((c : Thread nD τ).loc main_arg5)) (m ((c : Thread nD τ).loc main_arg7)) := by
  refine (dats m 0 c).arrAt_eq_of_covers 14 _ (by decide +kernel) fun t hf y => ?_
  blk_simp
  rw [after0_14]
  idx_vars y
  rw [dwp_run m c t ((flush0_14 t).mp hf), show ((View.whole main_v34_4).slice (win0_14.rect t)).emb (ix2 y0 y1) = ix2 y0 y1 from by
    blk_ext [idx t, row], Reference2Ideal.Mix.dwp_apply]

set_option maxHeartbeats 800000 in
/-- The array of the gradient at the pooling scale. -/
theorem final15 : (dats m 0 c).arrAt 15 (cfgs 0).N =
    Reference2Ideal.Read.val_main_v54 (F := Ideal) (m ((c : Thread nD τ).loc main_arg0)) (m ((c : Thread nD τ).loc main_arg2)) (m ((c : Thread nD τ).loc main_arg3)) (m ((c : Thread nD τ).loc main_arg4)) (m ((c : Thread nD τ).loc main_arg7)) := by
  refine (dats m 0 c).arrAt_eq_of_covers 15 _ (by decide +kernel) fun t hf y => ?_
  blk_simp
  rw [after0_15]
  idx_vars y
  obtain rfl : y0 = 0 := Fin.ext (by omega)
  rw [dps_run m c t ((flush0_15 t).mp hf), show ((View.whole main_v34_5).slice (win0_15.rect t)).emb (ix2 0 y1) = ix2 0 y1 from by
    blk_ext [idx t, row], Reference2Ideal.Mix.dps_apply]

set_option maxHeartbeats 800000 in
/-- The array of the gradient at the residual gate. -/
theorem final16 : (dats m 0 c).arrAt 16 (cfgs 0).N =
    Reference2Ideal.Read.val_main_v46 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (dats m 0 c).arrAt_eq_of_covers 16 _ (by decide +kernel) fun t hf y => ?_
  blk_simp
  rw [after0_16]
  idx_vars y
  obtain rfl : y0 = 0 := Fin.ext (by omega)
  rw [dgate_run m c t ((flush0_16 t).mp hf), show ((View.whole main_v34_6).slice (win0_16.rect t)).emb (ix2 0 y1) = ix2 0 y1 from by
    blk_ext [idx t, row], Reference2Ideal.Mix.dgate_apply]

end Cert.Kernel2Ideal.Mix

end
-- ==== Proof.PreFfn0.lean ====
module

public import proofs.«01_k».proof.Proof.Pre
public import proofs.«01_k».proof.Proof.Gen.Pre_ffn0_grad_finite

/-! What the third precondition says: every entry of every argument is a real number. -/

@[expose] public section

noncomputable section

open Idealize.ShloMosaic Cert.Reals
open Cert.Pre_ffn_grad_finite.Meaning (entry)

namespace Cert.Pre_ffn0_grad_finite.Meaning

open Cert.Pre_ffn0_grad_finite

instance : Subsingleton S_.Idx := ⟨fun a b => funext fun i => i.elim0⟩

theorem reals (x0 : FVec Ideal S8704x1024 .f32) (x1 : FVec Ideal S2x9x1024 .f32) (x2 : FVec Ideal S8704x1024 .f32) (x3 x4 : FVec Ideal S8x1024x352 .f32) (x5 : FVec Ideal S8x352x1024 .f32)
    (h : fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x4 i)) ∧ ∀ i, IsReal (x5 i) := by
  have e := congrFun h (Shape.Idx.first Gen.h_S_)
  dsimp only [fn, fn_part1, andi] at e
  simp only [IntOp.andi_eq_one] at e
  obtain ⟨⟨⟨⟨⟨e0, e1⟩, e2⟩, e3⟩, e4⟩, e5⟩ := e
  exact ⟨fun i => entry x0 _ i (Host.reduce_andi_all _ _ _ _ _ e0 i), fun i => entry x1 _ i (Host.reduce_andi_all _ _ _ _ _ e1 i),
    fun i => entry x2 _ i (Host.reduce_andi_all _ _ _ _ _ e2 i), fun i => entry x3 _ i (Host.reduce_andi_all _ _ _ _ _ e3 i),
    fun i => entry x4 _ i (Host.reduce_andi_all _ _ _ _ _ e4 i), fun i => entry x5 _ i (Host.reduce_andi_all _ _ _ _ _ e5 i)⟩

end Cert.Pre_ffn0_grad_finite.Meaning

end
-- ==== Proof.FfnABlocks.lean ====
module

public import proofs.«01_k».proof.Proof.FfnPay
public import proofs.«01_k».proof.Proof.Gen.Kernel3Ideal.Frame
public import Idealize.ShloMosaic.Lib.Claim

/-! What each block of the operands holds in the first half-step's gradient, for the first four shards. The context rows come
    last in the arrays and first in the pipeline. -/

@[expose] public section

set_option maxRecDepth 16384

noncomputable section

open Idealize.ShloMosaic Idealize.ShloMosaic.TcCoe Idealize.SL.Sem
open Idealize.ShloMosaic.Pipeline (Dat)
open Cert.Reals Cert.FfnMath Cert.FfnPay

namespace Cert.Kernel3Ideal.Ffn

open Cert.Kernel3Ideal Cert.Kernel3Ideal.Gen

variable (m : (ℓ : Loc nD τ sig) → Buf (Elt Ideal) ℓ) (c : Dev nD)

/-- The six arguments as functions of coordinates. -/
abbrev D (r : Fin 8704) (k : Fin 1024) : EReal := m ((c : Thread nD τ).loc main_arg0) (ix2 r k)
abbrev G (r : Fin 8704) (k : Fin 1024) : EReal :=
  if (r : ℕ) < 8192 then m ((c : Thread nD τ).loc main_arg1) (ix3 1 2 k) else m ((c : Thread nD τ).loc main_arg1) (ix3 0 2 k)
abbrev H (r : Fin 8704) (k : Fin 1024) : EReal := m ((c : Thread nD τ).loc main_arg2) (ix2 r k)
abbrev W1 (s : Fin 8) (k : Fin 1024) (f : Fin 352) : EReal := m ((c : Thread nD τ).loc main_arg3) (ix3 s k f)
abbrev W3 (s : Fin 8) (k : Fin 1024) (f : Fin 352) : EReal := m ((c : Thread nD τ).loc main_arg4) (ix3 s k f)
abbrev W2 (s : Fin 8) (f : Fin 352) (k : Fin 1024) : EReal := m ((c : Thread nD τ).loc main_arg5) (ix3 s f k)

/-- The windows' block indices. -/
theorem idx : ∀ t : Fin cfg0.N, win0_0.index t = ![(t.val + 16) % 17, 0] ∧ win0_1.index t = ![min (t.val % 17) 1, 0, 0]
    ∧ win0_2.index t = ![(t.val + 16) % 17, 0] ∧ win0_3.index t = ![(t.val + 16) % 17, t.val / 17]
    ∧ win0_4.index t = ![t.val / 17, 0, 0] ∧ win0_5.index t = ![t.val / 17, 0, 0]
    ∧ win0_6.index t = ![t.val / 17, (t.val + 16) % 17, 0] ∧ win0_7.index t = ![t.val / 17, 0, 0] ∧ win0_8.index t = ![t.val / 17, 0, 0] :=
  (by decide +kernel : ∀ t : Fin grid0.N, _)

theorem lt_N (t : Fin cfg0.N) : t.val < 34 := lt_of_lt_of_eq t.isLt N_0

/-- The row of the arrays that a point's block holds at row `n`. -/
def row (t : Fin cfg0.N) (n : Fin 512) : Fin 8704 := ⟨(t.val + 16) % 17 * 512 + n, by omega⟩

/-- The shards of a point: `q = 0, 1`. -/
def shard (t : Fin cfg0.N) (q : Fin 2) : Fin 8 := ⟨t.val / 17 * 2 + q, by have := lt_N t; omega⟩

theorem sitofp_zero : (FloatOps.sitofp FTy.f32 0#32 : Ideal .f32) = (0 : EReal) := by
  show ((((0#32 : BitVec 32).toInt : ℝ) : EReal)) = 0
  simp

/-- The weights as the kernel holds them: transposed and padded with zero rows. -/
theorem w13_apply (s : Fin 8) (w : Fin 768) (k : Fin 1024) :
    V m c main_v5 (ix3 s w k) =
      if _ : (w : ℕ) < 384 then if h : (w : ℕ) < 352 then W1 m c s k ⟨w, h⟩ else 0
      else if h : (w : ℕ) - 384 < 352 then W3 m c s k ⟨w - 384, h⟩ else 0 := by
  simp only [V, hostOps0, hostOps0_1, hostOps0_2, hostOps0_3, hostOps0_4, hostOps0_5, hostOps0_6, List.flatten_cons, List.flatten_nil, List.cons_append, List.nil_append, List.append_nil]
  entry_read
  simp -implicitDefEqProofs only [StableHlo.TRef.toBuf, StableHlo.TRef.ofBuf, cast_cast, cast_eq]
  pointwise
  rw [sitofp_zero]

theorem w2_apply (p : Fin 4) (w : Fin 768) (k : Fin 1024) :
    V m c main_v8 (ix3 p w k) = if h : (w : ℕ) % 384 < 352 then W2 m c ⟨p * 2 + w / 384, by omega⟩ ⟨w % 384, h⟩ k else 0 := by
  simp only [V, hostOps0, hostOps0_1, hostOps0_2, hostOps0_3, hostOps0_4, hostOps0_5, hostOps0_6, List.flatten_cons, List.flatten_nil, List.cons_append, List.nil_append, List.append_nil]
  entry_read
  simp -implicitDefEqProofs only [StableHlo.TRef.toBuf, StableHlo.TRef.ofBuf, cast_cast, cast_eq]
  pointwise
  rw [sitofp_zero]
  have hp : (p : ℕ) * 2 + (w : ℕ) / 384 < 8 := by omega
  simp only [hp, true_and]

theorem ab_apply (r : Fin 8704) (j : Fin 6144) :
    V m c main_v12 (ix2 r j) = ∑ k, H m c r k * V m c main_v5 (ix3 ⟨j / 768, by omega⟩ ⟨j % 768, by omega⟩ k) := by
  simp only [V, hostOps0, hostOps0_1, hostOps0_2, hostOps0_3, hostOps0_4, hostOps0_5, hostOps0_6, List.flatten_cons, List.flatten_nil, List.cons_append, List.nil_append, List.append_nil]
  entry_read
  pointwise

theorem blk0 (t : Fin cfg0.N) (n : Fin 512) (k : Fin 1024) : iblk m c 0 t (ix2 n k) = D m c (row t n) k := by
  unfold row
  blk_point [iblk, V, idx t]

theorem blk1 (t : Fin cfg0.N) (n : Fin 512) (k : Fin 1024) : iblk m c 1 t (ix3 0 2 k) = G m c (row t n) k := by
  have e : iblk m c 1 t (ix3 0 2 k) = m ((c : Thread nD τ).loc main_arg1) (ix3 ⟨min (t.val % 17) 1, by omega⟩ 2 k) := by
    blk_ext [iblk, V, idx t]
  rw [e, G, row]
  by_cases h : t.val % 17 = 0
  · rw [if_neg (by simp only; omega), show (⟨min (t.val % 17) 1, by omega⟩ : Fin 2) = 0 from Fin.ext (by simp only [h]; rfl)]
  · rw [if_pos (by simp only; omega), show (⟨min (t.val % 17) 1, by omega⟩ : Fin 2) = 1 from Fin.ext (by simp only [Fin.val_one]; omega)]

theorem h_apply (r : Fin 8704) (k : Fin 1024) : V m c main_v9 (ix2 r k) = H m c r k := by
  simp only [V, hostOps0, hostOps0_1, hostOps0_2, hostOps0_3, hostOps0_4, hostOps0_5, hostOps0_6, List.flatten_cons, List.flatten_nil, List.cons_append, List.nil_append, List.append_nil]
  entry_read
  pointwise

theorem blk2 (t : Fin cfg0.N) (n : Fin 512) (k : Fin 1024) : iblk m c 2 t (ix2 n k) = H m c (row t n) k := by
  refine Eq.trans ?_ (h_apply m c (row t n) k)
  unfold row
  blk_ext [iblk, idx t]

theorem blk3 (t : Fin cfg0.N) (n : Fin 512) (j : Fin 1536) :
    iblk m c 3 t (ix2 n j) = V m c main_v12 (ix2 (row t n) ⟨t.val / 17 * 1536 + j, by have := lt_N t; omega⟩) := by
  unfold row
  blk_ext [iblk, idx t]

theorem blk4 (t : Fin cfg0.N) (q : Fin 2) (w : Fin 768) (k : Fin 1024) :
    iblk m c 4 t (ix3 q w k) = V m c main_v5 (ix3 (shard t q) w k) := by
  unfold shard
  blk_ext [iblk, idx t]

theorem blk5 (t : Fin cfg0.N) (w : Fin 768) (k : Fin 1024) :
    iblk m c 5 t (ix3 0 w k) = V m c main_v8 (ix3 ⟨t.val / 17, by have := lt_N t; omega⟩ w k) := by
  blk_ext [iblk, idx t]

/-! The blocks' entries as the padded quantities. -/

theorem w1_entry (s : Fin 8) (w : Fin 768) (f : Fin 384) (k : Fin 1024) (hw : (w : ℕ) = f) :
    V m c main_v5 (ix3 s w k) = padW (W1 m c) s f k := by
  have hf := f.isLt
  rw [w13_apply, dif_pos (by omega), padW]
  simp only [hw]

theorem w3_entry (s : Fin 8) (w : Fin 768) (f : Fin 384) (k : Fin 1024) (hw : (w : ℕ) = 384 + f) :
    V m c main_v5 (ix3 s w k) = padW (W3 m c) s f k := by
  rw [w13_apply, dif_neg (by omega), padW]
  simp only [hw, Nat.add_sub_cancel_left]

theorem a_blk (t : Fin cfg0.N) (n : Fin 512) (j : Fin 1536) (q : Fin 2) (f : Fin 384) (hj : (j : ℕ) = q * 768 + f) :
    iblk m c 3 t (ix2 n j) = kpre (H m c) (W1 m c) (shard t q) (row t n) f := by
  rw [blk3, ab_apply]
  refine Fin.sum_fin_congr fun k => ?_
  have hf := f.isLt
  have e : (⟨((⟨t.val / 17 * 1536 + j, by have := lt_N t; omega⟩ : Fin 6144) : ℕ) / 768, by have := lt_N t; simp only; omega⟩ : Fin 8) = shard t q :=
    Fin.ext (by simp only [shard]; omega)
  rw [e, w1_entry m c (shard t q) _ f k (by simp only; omega)]

theorem b_blk (t : Fin cfg0.N) (n : Fin 512) (j : Fin 1536) (q : Fin 2) (f : Fin 384) (hj : (j : ℕ) = q * 768 + (384 + f)) :
    iblk m c 3 t (ix2 n j) = kpre (H m c) (W3 m c) (shard t q) (row t n) f := by
  rw [blk3, ab_apply]
  refine Fin.sum_fin_congr fun k => ?_
  have hf := f.isLt
  have e : (⟨((⟨t.val / 17 * 1536 + j, by have := lt_N t; omega⟩ : Fin 6144) : ℕ) / 768, by have := lt_N t; simp only; omega⟩ : Fin 8) = shard t q :=
    Fin.ext (by simp only [shard]; omega)
  rw [e, w3_entry m c (shard t q) _ f k (by simp only; omega)]

theorem v_blk (t : Fin cfg0.N) (w : Fin 768) (q : Fin 2) (f : Fin 384) (k : Fin 1024) (hw : (w : ℕ) = q * 384 + f) :
    iblk m c 5 t (ix3 0 w k) = padV (W2 m c) (shard t q) f k := by
  have hf := f.isLt
  have e1 : (w : ℕ) / 384 = q := by omega
  have e2 : (w : ℕ) % 384 = f := by omega
  rw [blk5, w2_apply, padV]
  simp only [e1, e2, shard]

/-- A point's blocks. -/
theorem blk (t : Fin cfg0.N) : Blk (iblk m c 0 t) (iblk m c 2 t) (iblk m c 3 t) (iblk m c 4 t) (iblk m c 5 t)
    (fun n => D m c (row t n)) (fun n => H m c (row t n)) (W1 m c) (W3 m c) (W2 m c) (shard t) where
  d := blk0 m c t
  h := blk2 m c t
  a := a_blk m c t
  b := b_blk m c t
  u q w f k hw := (blk4 m c t q w k).trans (w1_entry m c _ w f k hw)
  u' q w f k hw := (blk4 m c t q w k).trans (w3_entry m c _ w f k hw)
  v := v_blk m c t

/-- The row of the gate that a point reads. -/
abbrev gt (t : Fin cfg0.N) : Vec Ideal S1x1x1024 .f32 :=
  View.ld (Val := Elt Ideal) (e' := .f32) (iblk m c 1 t) (Rect.unit ![0, 2, 0] ![1, 1, 1024] inb_S1x9x1024_S1x1x1024_0_2_0)

theorem gt_eq (t : Fin cfg0.N) : (fun (_ : Fin 512) k => (gt m c t (ix3 0 0 k) : EReal)) = fun n => G m c (row t n) := by
  funext n k
  refine Eq.trans ?_ (blk1 m c t n k)
  unfold gt
  pointwise

end Cert.Kernel3Ideal.Ffn

end
-- ==== Proof.FfnAStep.lean ====
module

public import proofs.«01_k».proof.Proof.FfnABlocks
public import Idealize.ShloMosaic.Lib.Pipeline.ReadBack

/-! What one grid point of the first half-step's gradient leaves in its output block and in its two accumulators. -/

@[expose] public section

set_option maxRecDepth 16384

noncomputable section

open Idealize.ShloMosaic Idealize.ShloMosaic.TcCoe Idealize.SL.Sem
open Idealize.ShloMosaic.Pipeline (Dat)
open Cert.Reals Cert.FfnMath Cert.FfnPay

namespace Cert.Kernel3Ideal.Ffn

open Cert.Kernel3Ideal Cert.Kernel3Ideal.Gen

variable (m : (ℓ : Loc nD τ sig) → Buf (Elt Ideal) ℓ) (c : Dev nD) (t : Fin cfg0.N)

/-- The block of the gradient at `h` that a point writes. -/
theorem out6_apply (n : Fin 512) (k : Fin 1024) : (outsAt0 m c t.val t.isLt).1 (ix3 0 n k) =
    kdh (W1 m c) (W3 m c) (W2 m c) (D m c) (H m c) (G m c) (shard t 0) (row t n) k
      + kdh (W1 m c) (W3 m c) (W2 m c) (D m c) (H m c) (G m c) (shard t 1) (row t n) k := by
  have e := dh_tile (gt m c t) (blk m c t) (gt_eq m c t) n k
  by_cases h0 : t.val % 17 = 0
  · rw [outsAt0_A m c t h0 (by omega)]
    frame_out
    exact e
  · by_cases h1 : t.val % 17 = 16
    · rw [outsAt0_C m c t h0 h1]
      frame_out
      exact e
    · rw [outsAt0_B m c t h0 h1]
      frame_out
      exact e

/-- What a point adds to the first accumulator. -/
abbrev ab (t : Fin cfg0.N) (q : Fin 2) (w : Fin 768) (k : Fin 1024) : EReal :=
  ∑ n, kab (W1 m c) (W3 m c) (W2 m c) (D m c) (H m c) (G m c) (shard t q) (row t n) w * H m c (row t n) k

/-- What a point adds to the second accumulator. -/
abbrev zz (t : Fin cfg0.N) (w : Fin 768) (k : Fin 1024) : EReal :=
  ∑ n, kzr (W1 m c) (W3 m c) (H m c) (shard t) (row t n) w * (D m c (row t n) k * (half * G m c (row t n) k))

/-- Two stores of the two shards' sums leave the sums. -/
theorem two_sums (L : List (View.Piece (Elt Ideal) S2x768x1024 .f32)) (X1 X0 : S1x768x1024.Idx → EReal) (q : Fin 2) (w : Fin 768)
    (k : Fin 1024) (X : EReal) (h1 : q = 1 → X1 (ix3 0 w k) = X) (h0 : q = 0 → X0 (ix3 0 w k) = X) :
    View.canon (Val := Elt Ideal) (⟨Rect.unit ![1, 0, 0] ![1, 768, 1024] inb_S2x768x1024_S1x768x1024_1_0_0,
        hiPay (iblk m c 0 t) (iblk m c 2 t) (iblk m c 3 t) (iblk m c 5 t) (gt m c t) X1⟩ ::
      ⟨Rect.unit ![0, 0, 0] ![1, 768, 1024] inb_S2x768x1024_S1x768x1024_0_0_0,
        loPay (iblk m c 0 t) (iblk m c 2 t) (iblk m c 3 t) (iblk m c 5 t) (gt m c t) X0⟩ :: L) (ix3 q w k) = X + ab m c t q w k := by
  rw [two_slots]
  obtain rfl | rfl : q = 1 ∨ q = 0 := by omega
  · rw [if_pos rfl, hi_tile (gt m c t) (blk m c t) (gt_eq m c t), h1 rfl]
  · rw [if_neg (by decide), lo_tile (gt m c t) (blk m c t) (gt_eq m c t), h0 rfl]

theorem acc13_reset (h0 : t.val % 17 = 0) (q : Fin 2) (w : Fin 768) (k : Fin 1024) :
    (outsAt0 m c t.val t.isLt).2.2.2.1 (ix3 q w k) = (0 : EReal) + ab m c t q w k := by
  rw [outsAt0_A m c t h0 (by omega)]
  frame_out
  simp (disch := decide) only [↓ View.readCov_skip, ↓ View.readCov_fill]
  refine two_sums m c t _ _ _ q w k _ (fun h => ?_) fun h => ?_
  · exact zero7 _
  · exact zero7 _

theorem acc13_step (h0 : ¬t.val % 17 = 0) (q : Fin 2) (w : Fin 768) (k : Fin 1024) :
    (outsAt0 m c t.val t.isLt).2.2.2.1 (ix3 q w k) =
      ((outsAt0 m c (t.val - 1) (lt_of_le_of_lt (Nat.sub_le _ _) t.isLt)).2.2.2.1 (ix3 q w k) : EReal) + ab m c t q w k := by
  by_cases h1 : t.val % 17 = 16
  · rw [outsAt0_C m c t h0 h1]
    frame_out
    simp only [read_unread_whole]
    refine two_sums m c t _ _ _ q w k _ (fun h => ?_) fun h => ?_ <;> subst h <;> pointwise
  · rw [outsAt0_B m c t h0 h1]
    frame_out
    simp only [read_unread_whole]
    refine two_sums m c t _ _ _ q w k _ (fun h => ?_) fun h => ?_ <;> subst h <;> pointwise

theorem acc2_reset (h0 : t.val % 17 = 0) (w : Fin 768) (k : Fin 1024) :
    (outsAt0 m c t.val t.isLt).2.2.2.2 (ix2 w k) = (0 : EReal) + zz m c t w k := by
  rw [outsAt0_A m c t h0 (by omega)]
  frame_out
  exact (zz_tile (gt m c t) (blk m c t) (gt_eq m c t) _ w k).trans (congrArg (· + zz m c t w k) (zero8 _))

theorem acc2_step (h0 : ¬t.val % 17 = 0) (w : Fin 768) (k : Fin 1024) :
    (outsAt0 m c t.val t.isLt).2.2.2.2 (ix2 w k) =
      ((outsAt0 m c (t.val - 1) (lt_of_le_of_lt (Nat.sub_le _ _) t.isLt)).2.2.2.2 (ix2 w k) : EReal) + zz m c t w k := by
  by_cases h1 : t.val % 17 = 16
  · rw [outsAt0_C m c t h0 h1]
    frame_out
    simp only [read_unread_whole]
    exact zz_tile (gt m c t) (blk m c t) (gt_eq m c t) _ w k
  · rw [outsAt0_B m c t h0 h1]
    frame_out
    simp only [read_unread_whole]
    exact zz_tile (gt m c t) (blk m c t) (gt_eq m c t) _ w k

end Cert.Kernel3Ideal.Ffn

end
-- ==== Proof.FfnARef.lean ====
module

public import proofs.«01_k».proof.Proof.FfnMath
public import proofs.«01_k».proof.Proof.Gen.Reference3Ideal.Read

/-! The third reference's three results, entry by entry. -/

@[expose] public section

set_option maxRecDepth 16384

noncomputable section

open Idealize.ShloMosaic Idealize.ShloMosaic.TcCoe Idealize.SL.Sem
open Cert.Reals Cert.FfnMath

namespace Cert.Reference3Ideal.Ffn

open Cert.Reference3Ideal Cert.Reference3Ideal.Gen Cert.Reference3Ideal.Read

variable (x0 x2 : S8704x1024.Idx → EReal) (x1 : S2x9x1024.Idx → EReal) (x3 x4 : S8x1024x352.Idx → EReal)
  (x5 : S8x352x1024.Idx → EReal)

/-- The six arguments as functions of coordinates. -/
abbrev D (r : Fin 8704) (k : Fin 1024) : EReal := x0 (ix2 r k)
abbrev G (r : Fin 8704) (k : Fin 1024) : EReal := val_main_v9 (F := Ideal) x1 (ix2 r k)
abbrev W (x : S8x1024x352.Idx → EReal) (s : Fin 8) (k : Fin 1024) (f : Fin 352) : EReal := x (ix3 s k f)
abbrev W2 (s : Fin 8) (f : Fin 352) (k : Fin 1024) : EReal := x5 (ix3 s f k)

theorem sitofp_zero : (FloatOps.sitofp FTy.f32 0#32 : Ideal .f32) = (0 : EReal) := by
  show ((((0#32 : BitVec 32).toInt : ℝ) : EReal)) = 0
  simp

/-- The gate: one row of factors for the sequence's rows, another for the context's. -/
theorem gate_apply (r : Fin 8704) (k : Fin 1024) : G x1 r k = if (r : ℕ) < 8192 then x1 (ix3 1 2 k) else x1 (ix3 0 2 k) := by
  unfold G
  pointwise [val_main_v3, val_main_v4, val_main_v5, val_main_v6, val_main_v7, val_main_v8, val_main_v9]
  split <;> rfl

set_option maxHeartbeats 800000 in
theorem dh_apply (p : Fin 2) (r : Fin 8704) (k : Fin 1024) :
    val_main_v41 (F := Ideal) x0 x1 x2 x3 x4 x5 (ix3 p r k) =
      ∑ q : Fin 2, dh (D x0) (D x2) (G x1) (W x3) (W x4) (W2 x5) ⟨p * 2 + q, by omega⟩ r k := by
  pointwise [val_main_v0, val_main_v1, val_main_v2, val_main_cst, val_main_v10, val_main_v11, val_main_v12, val_main_call0_v0, val_main_call0_v1, val_main_call0_cst, val_main_call0_v2, val_main_call0_v3, val_main_call0_cst_0, val_main_call0_v4, val_main_v13_2, val_main_call0_cst_1, val_main_call0_v6, val_main_call0_v7, val_main_v13_1, val_main_v13_0, val_main_v14, val_main_v15, val_main_v16, val_main_v17, val_main_v18, val_main_v19, val_main_v20, val_main_v21, val_main_v22, val_main_v23, val_main_v24, val_main_v25, val_main_v26, val_main_v27, val_main_v28, val_main_call1_v0, val_main_call1_v1, val_main_call1_v2, val_main_v29, val_main_v30, val_main_v31, val_main_v32, val_main_v33, val_main_v34, val_main_cst_0, val_main_v35, val_main_v36, val_main_c, val_main_call2_v0, val_main_v37, val_main_v38, val_main_c_1, val_main_call3_v0, val_main_v39, val_main_v40, val_main_v41, val_main_v42, val_main_c_2, val_main_call4_v0, val_main_v43, val_main_v44, val_main_v45]
  rfl

set_option maxHeartbeats 800000 in
theorem dw13_apply (s : Fin 4) (w : Fin 768) (k : Fin 1024) :
    val_main_v42 (F := Ideal) x0 x1 x2 x3 x4 x5 (ix3 s w k) =
      if _ : (w : ℕ) < 384 then
        if h : (w : ℕ) < 352 then dw1 (D x0) (D x2) (G x1) (W x3) (W x4) (W2 x5) ⟨s, by omega⟩ ⟨w, h⟩ k else 0
      else if h : (w : ℕ) - 384 < 352 then dw3 (D x0) (D x2) (G x1) (W x3) (W2 x5) ⟨s, by omega⟩ ⟨w - 384, h⟩ k else 0 := by
  pointwise [val_main_v0, val_main_v1, val_main_v2, val_main_cst, val_main_v10, val_main_v11, val_main_v12, val_main_call0_v0, val_main_call0_v1, val_main_call0_cst, val_main_call0_v2, val_main_call0_v3, val_main_call0_cst_0, val_main_call0_v4, val_main_v13_2, val_main_call0_cst_1, val_main_call0_v6, val_main_call0_v7, val_main_v13_1, val_main_v13_0, val_main_v14, val_main_v15, val_main_v16, val_main_v17, val_main_v18, val_main_v19, val_main_v20, val_main_v21, val_main_v22, val_main_v23, val_main_v24, val_main_v25, val_main_v26, val_main_v27, val_main_v28, val_main_call1_v0, val_main_call1_v1, val_main_call1_v2, val_main_v29, val_main_v30, val_main_v31, val_main_v32, val_main_v33, val_main_v34, val_main_cst_0, val_main_v35, val_main_v36, val_main_c, val_main_call2_v0, val_main_v37, val_main_v38, val_main_c_1, val_main_call3_v0, val_main_v39, val_main_v40, val_main_v41, val_main_v42, val_main_c_2, val_main_call4_v0, val_main_v43, val_main_v44, val_main_v45]
  by_cases h : (w : ℕ) < 384
  · refine (dif_pos h).trans (Eq.trans ?_ (dif_pos h).symm)
    by_cases h' : (w : ℕ) < 352
    · refine (dif_pos h').trans (Eq.trans ?_ (dif_pos h').symm)
      rfl
    · refine (dif_neg h').trans (sitofp_zero.trans ?_)
      rw [dif_neg h']
  · refine (dif_neg h).trans (Eq.trans ?_ (dif_neg h).symm)
    by_cases h' : (w : ℕ) - 384 < 352
    · refine (dif_pos h').trans (Eq.trans ?_ (dif_pos h').symm)
      rfl
    · refine (dif_neg h').trans (sitofp_zero.trans ?_)
      rw [dif_neg h']

set_option maxHeartbeats 800000 in
theorem dw2_apply (p : Fin 2) (w : Fin 768) (k : Fin 1024) :
    val_main_v45 (F := Ideal) x0 x1 x2 x3 x4 (ix3 p w k) =
      if h : (w : ℕ) % 384 < 352 then
        dw2 (D x0) (D x2) (G x1) (W x3) (W x4) ⟨p * 2 + w / 384, by omega⟩ ⟨w % 384, h⟩ k
      else 0 := by
  pointwise [val_main_v0, val_main_v1, val_main_v2, val_main_cst, val_main_v10, val_main_v11, val_main_v12, val_main_call0_v0, val_main_call0_v1, val_main_call0_cst, val_main_call0_v2, val_main_call0_v3, val_main_call0_cst_0, val_main_call0_v4, val_main_v13_2, val_main_call0_cst_1, val_main_call0_v6, val_main_call0_v7, val_main_v13_1, val_main_v13_0, val_main_v14, val_main_v15, val_main_v16, val_main_v17, val_main_v18, val_main_v19, val_main_v20, val_main_v21, val_main_v22, val_main_v23, val_main_v24, val_main_v25, val_main_v26, val_main_v27, val_main_v28, val_main_call1_v0, val_main_call1_v1, val_main_call1_v2, val_main_v29, val_main_v30, val_main_v31, val_main_v32, val_main_v33, val_main_v34, val_main_cst_0, val_main_v35, val_main_v36, val_main_c, val_main_call2_v0, val_main_v37, val_main_v38, val_main_c_1, val_main_call3_v0, val_main_v39, val_main_v40, val_main_v41, val_main_v42, val_main_c_2, val_main_call4_v0, val_main_v43, val_main_v44, val_main_v45]
  have hp : (p : ℕ) * 2 + (w : ℕ) / 384 < 4 := by omega
  by_cases h : (w : ℕ) % 384 < 352
  · refine (dif_pos ⟨hp, h⟩).trans (Eq.trans ?_ (dif_pos h).symm)
    rfl
  · refine (dif_neg fun h' => h h'.2).trans (sitofp_zero.trans ?_)
    rw [dif_neg h]

end Cert.Reference3Ideal.Ffn

end
-- ==== Proof.FfnAFinal.lean ====
module

public import proofs.«01_k».proof.Proof.FfnAStep
public import proofs.«01_k».proof.Proof.FfnARef
public import Idealize.ShloMosaic.Lib.Pipeline.ReadBack

/-! The accumulated sums over all rows, and the three result arrays of the first half-step's gradient. -/

@[expose] public section

set_option maxRecDepth 16384

noncomputable section

open Idealize.ShloMosaic Idealize.ShloMosaic.TcCoe Idealize.SL.Sem
open Idealize.ShloMosaic.Pipeline (Dat)
open Cert.Reals Cert.FfnMath Cert.FfnPay

namespace Cert.Kernel3Ideal.Ffn

open Cert.Kernel3Ideal Cert.Kernel3Ideal.Gen

variable (m : (ℓ : Loc nD τ sig) → Buf (Elt Ideal) ℓ) (c : Dev nD) (t : Fin cfg0.N)

theorem run_shard (hr : t.val % 17 = 16) (s : Fin 17) (q : Fin 2) :
    shard ⟨17 * (t.val / 17) + s.val, Pipeline.run_point_lt_of_flush t hr s⟩ q = shard t q :=
  Fin.ext (by simp only [shard]; omega)

theorem run_row (hr : t.val % 17 = 16) (s : Fin 17) (n : Fin 512) :
    row ⟨17 * (t.val / 17) + s.val, Pipeline.run_point_lt_of_flush t hr s⟩ n = ⟨(s.val + 16) % 17 * 512 + n.val, by omega⟩ :=
  Fin.ext (by simp only [row]; omega)

/-- The first accumulator at the end of a run: the sum over all rows. -/
theorem acc13_run (hr : t.val % 17 = 16) (q : Fin 2) (w : Fin 768) (k : Fin 1024) :
    (outsAt0 m c t.val t.isLt).2.2.2.1 (ix3 q w k) =
      ∑ r, kab (W1 m c) (W3 m c) (W2 m c) (D m c) (H m c) (G m c) (shard t q) r w * H m c r k := by
  have e := Pipeline.eq_sum_fin_of_reset_step_apply_of_flush
    (fun n h (i : S2x768x1024.Idx) => ((outsAt0 m c n h).2.2.2.1 i : EReal)) 17 (fun _ => (0 : EReal))
    (fun t i => ab m c t (i 0) (i 1) (i 2))
    (fun t h i => by idx_vars i; exact acc13_reset m c t h i0 i1 i2)
    (fun t h i => by idx_vars i; exact acc13_step m c t h i0 i1 i2) t hr (ix3 q w k)
  refine e.trans ?_
  rw [zero_add]
  refine Eq.trans ?_ (sum_tiles fun r => kab (W1 m c) (W3 m c) (W2 m c) (D m c) (H m c) (G m c) (shard t q) r w * H m c r k)
  refine Finset.sum_congr rfl fun s _ => Finset.sum_congr rfl fun n _ => ?_
  refine Eq.trans ?_ (show kab (W1 m c) (W3 m c) (W2 m c) (D m c) (H m c) (G m c)
    (shard ⟨17 * (t.val / 17) + s.val, Pipeline.run_point_lt_of_flush t hr s⟩ q)
    (row ⟨17 * (t.val / 17) + s.val, Pipeline.run_point_lt_of_flush t hr s⟩ n) w *
      H m c (row ⟨17 * (t.val / 17) + s.val, Pipeline.run_point_lt_of_flush t hr s⟩ n) k = _ from by
    rw [run_shard t hr, run_row t hr s n])
  rfl

/-- The second accumulator at the end of a run. -/
theorem acc2_run (hr : t.val % 17 = 16) (w : Fin 768) (k : Fin 1024) :
    (outsAt0 m c t.val t.isLt).2.2.2.2 (ix2 w k) =
      ∑ r, kzr (W1 m c) (W3 m c) (H m c) (shard t) r w * (D m c r k * (half * G m c r k)) := by
  have e := Pipeline.eq_sum_fin_of_reset_step_apply_of_flush
    (fun n h (i : S768x1024.Idx) => ((outsAt0 m c n h).2.2.2.2 i : EReal)) 17 (fun _ => (0 : EReal))
    (fun t i => zz m c t (i 0) (i 1))
    (fun t h i => by idx_vars i; exact acc2_reset m c t h i0 i1)
    (fun t h i => by idx_vars i; exact acc2_step m c t h i0 i1) t hr (ix2 w k)
  refine e.trans ?_
  rw [zero_add]
  refine Eq.trans ?_ (sum_tiles fun r => kzr (W1 m c) (W3 m c) (H m c) (shard t) r w * (D m c r k * (half * G m c r k)))
  refine Finset.sum_congr rfl fun s _ => Finset.sum_congr rfl fun n _ => ?_
  have es : shard ⟨17 * (t.val / 17) + s.val, Pipeline.run_point_lt_of_flush t hr s⟩ = shard t := funext (run_shard t hr s)
  refine Eq.trans ?_ (show kzr (W1 m c) (W3 m c) (H m c)
    (shard ⟨17 * (t.val / 17) + s.val, Pipeline.run_point_lt_of_flush t hr s⟩)
    (row ⟨17 * (t.val / 17) + s.val, Pipeline.run_point_lt_of_flush t hr s⟩ n) w *
      (D m c (row ⟨17 * (t.val / 17) + s.val, Pipeline.run_point_lt_of_flush t hr s⟩ n) k *
        (half * G m c (row ⟨17 * (t.val / 17) + s.val, Pipeline.run_point_lt_of_flush t hr s⟩ n) k)) = _ from by
    rw [es, run_row t hr s n])
  rfl

/-- What the last point of a run writes out of the first accumulator: what the stores before left there. -/
theorem read_all (L : List (View.Piece (Elt Ideal) S2x768x1024 .f32)) (y : S2x768x1024.Idx) :
    k0_pay5 ((View.whole cc0_scratch0).readCov (Val := Elt Ideal) L
      (Rect.unit ![0, 0, 0] ![2, 768, 1024] inb_S2x768x1024_S2x768x1024_0_0_0).toLoadRect) y = View.canon L y := by
  have o : (Rect.unit ![0, 0, 0] ![2, 768, 1024] inb_S2x768x1024_S2x768x1024_0_0_0 : Rect S2x768x1024).emb y = y := by
    funext a; apply Fin.ext; rw [Rect.emb_apply]; fin_cases a <;> simp
  refine (pay5_apply _ y).trans ?_
  rw [View.readCov_eq_canon']
  exact congrArg _ o

set_option maxHeartbeats 800000 in
/-- The block of the first layer's gradients that the last point of a run writes is the accumulator. -/
theorem out7_apply (hr : t.val % 17 = 16) (y : S2x768x1024.Idx) :
    (outsAt0 m c t.val t.isLt).2.1 y = (outsAt0 m c t.val t.isLt).2.2.2.1 y := by
  rw [outsAt0_C m c t (by omega) hr]
  frame_out
  exact read_all _ y

set_option maxHeartbeats 800000 in
/-- The block of the second layer's gradients likewise. -/
theorem out8_apply (hr : t.val % 17 = 16) (w : Fin 768) (k : Fin 1024) :
    (outsAt0 m c t.val t.isLt).2.2.1 (ix3 0 w k) = (outsAt0 m c t.val t.isLt).2.2.2.2 (ix2 w k) := by
  rw [outsAt0_C m c t (by omega) hr]
  frame_out
  exact pay6_apply _ w k

/-- The pair of shards of a point. -/
def pair (t : Fin cfg0.N) : Fin 2 := ⟨t.val / 17, by have := lt_N t; omega⟩

/-- The shard's place in the result. -/
def slot (t : Fin cfg0.N) (q : Fin 2) : Fin 4 := ⟨t.val / 17 * 2 + q, by have := lt_N t; omega⟩

/-- The reference's gate is the kernel's. -/
theorem gate_eq : Reference3Ideal.Ffn.G (m ((c : Thread nD τ).loc main_arg1)) = G m c :=
  funext fun r => funext fun k => Reference3Ideal.Ffn.gate_apply _ r k

set_option maxHeartbeats 800000 in
/-- The array of the gradient at `h`. -/
theorem final6 (hr : Reals (D m c) (H m c) (G m c) (W1 m c) (W3 m c) (W2 m c)) : (dats m 0 c).arrAt 6 (cfgs 0).N =
    Reference3Ideal.Read.val_main_v41 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  idx_vars y
  obtain rfl : y0 = 0 := Fin.ext (by omega)
  rw [out6_apply, show ((View.whole main_v13_0).slice (win0_6.rect t)).emb (ix3 0 y1 y2) = ix3 (pair t) (row t y1) y2 from by
    blk_ext [idx t, pair, row], Reference3Ideal.Ffn.dh_apply, gate_eq m c, Fin.sum_univ_two, kdh, kdh, kdh_eq hr, kdh_eq hr]
  rfl

set_option maxHeartbeats 800000 in
/-- The array of the gradients at `w1` and `w3`. -/
theorem final7 (hr : Reals (D m c) (H m c) (G m c) (W1 m c) (W3 m c) (W2 m c)) : (dats m 0 c).arrAt 7 (cfgs 0).N =
    Reference3Ideal.Read.val_main_v42 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  idx_vars y
  rw [out7_apply m c t ((flush0_7 t).mp hf), acc13_run m c t ((flush0_7 t).mp hf), show ((View.whole main_v13_1).slice (win0_7.rect t)).emb (ix3 y0 y1 y2) = ix3 (slot t y0) y1 y2 from by
    blk_ext [idx t, slot], Reference3Ideal.Ffn.dw13_apply, gate_eq m c]
  exact kab_sum hr _ _ _

set_option maxHeartbeats 800000 in
/-- The array of the gradient at `w2`. -/
theorem final8 (hr : Reals (D m c) (H m c) (G m c) (W1 m c) (W3 m c) (W2 m c)) : (dats m 0 c).arrAt 8 (cfgs 0).N =
    Reference3Ideal.Read.val_main_v45 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 8 _ (by decide +kernel) fun t hf y => ?_
  blk_simp
  rw [after0_8]
  idx_vars y
  obtain rfl : y0 = 0 := Fin.ext (by omega)
  rw [out8_apply m c t ((flush0_8 t).mp hf), acc2_run m c t ((flush0_8 t).mp hf), show ((View.whole main_v13_2).slice (win0_8.rect t)).emb (ix3 0 y1 y2) = ix3 (pair t) y1 y2 from by
    blk_ext [idx t, pair], Reference3Ideal.Ffn.dw2_apply, gate_eq m c]
  have hs : shard t ⟨(y1 : ℕ) / 384, by omega⟩ = ⟨pair t * 2 + (y1 : ℕ) / 384, by omega⟩ := rfl
  rw [kzr_sum (D := D m c) (H := H m c) (G := G m c) (W1 := W1 m c) (W3 := W3 m c) (shard t) y1 y2 _ hs]

end Cert.Kernel3Ideal.Ffn

end
-- ==== Proof.FfnBBlocks.lean ====
module

public import proofs.«01_k».proof.Proof.FfnPay
public import proofs.«01_k».proof.Proof.Gen.Kernel4Ideal.Frame
public import Idealize.ShloMosaic.Lib.Claim

/-! What each block of the operands holds in the first half-step's gradient, for the last four shards. The context rows come
    last in the arrays and first in the pipeline. -/

@[expose] public section

set_option maxRecDepth 16384

noncomputable section

open Idealize.ShloMosaic Idealize.ShloMosaic.TcCoe Idealize.SL.Sem
open Idealize.ShloMosaic.Pipeline (Dat)
open Cert.Reals Cert.FfnMath Cert.FfnPay

namespace Cert.Kernel4Ideal.Ffn

open Cert.Kernel4Ideal Cert.Kernel4Ideal.Gen

variable (m : (ℓ : Loc nD τ sig) → Buf (Elt Ideal) ℓ) (c : Dev nD)

/-- The six arguments as functions of coordinates. -/
abbrev D (r : Fin 8704) (k : Fin 1024) : EReal := m ((c : Thread nD τ).loc main_arg0) (ix2 r k)
abbrev G (r : Fin 8704) (k : Fin 1024) : EReal :=
  if (r : ℕ) < 8192 then m ((c : Thread nD τ).loc main_arg1) (ix3 1 2 k) else m ((c : Thread nD τ).loc main_arg1) (ix3 0 2 k)
abbrev H (r : Fin 8704) (k : Fin 1024) : EReal := m ((c : Thread nD τ).loc main_arg2) (ix2 r k)
abbrev W1 (s : Fin 8) (k : Fin 1024) (f : Fin 352) : EReal := m ((c : Thread nD τ).loc main_arg3) (ix3 s k f)
abbrev W3 (s : Fin 8) (k : Fin 1024) (f : Fin 352) : EReal := m ((c : Thread nD τ).loc main_arg4) (ix3 s k f)
abbrev W2 (s : Fin 8) (f : Fin 352) (k : Fin 1024) : EReal := m ((c : Thread nD τ).loc main_arg5) (ix3 s f k)

/-- The windows' block indices. -/
theorem idx : ∀ t : Fin cfg0.N, win0_0.index t = ![(t.val + 16) % 17, 0] ∧ win0_1.index t = ![min (t.val % 17) 1, 0, 0]
    ∧ win0_2.index t = ![(t.val + 16) % 17, 0] ∧ win0_3.index t = ![(t.val + 16) % 17, 2 + t.val / 17]
    ∧ win0_4.index t = ![2 + t.val / 17, 0, 0] ∧ win0_5.index t = ![2 + t.val / 17, 0, 0]
    ∧ win0_6.index t = ![t.val / 17, (t.val + 16) % 17, 0] ∧ win0_7.index t = ![t.val / 17, 0, 0] ∧ win0_8.index t = ![t.val / 17, 0, 0] :=
  (by decide +kernel : ∀ t : Fin grid0.N, _)

theorem lt_N (t : Fin cfg0.N) : t.val < 34 := lt_of_lt_of_eq t.isLt N_0

/-- The row of the arrays that a point's block holds at row `n`. -/
def row (t : Fin cfg0.N) (n : Fin 512) : Fin 8704 := ⟨(t.val + 16) % 17 * 512 + n, by omega⟩

/-- The shards of a point: `q = 0, 1`. -/
def shard (t : Fin cfg0.N) (q : Fin 2) : Fin 8 := ⟨4 + (t.val / 17 * 2 + q), by have := lt_N t; omega⟩

theorem sitofp_zero : (FloatOps.sitofp FTy.f32 0#32 : Ideal .f32) = (0 : EReal) := by
  show ((((0#32 : BitVec 32).toInt : ℝ) : EReal)) = 0
  simp

/-- The weights as the kernel holds them: transposed and padded with zero rows. -/
theorem w13_apply (s : Fin 8) (w : Fin 768) (k : Fin 1024) :
    V m c main_v5 (ix3 s w k) =
      if _ : (w : ℕ) < 384 then if h : (w : ℕ) < 352 then W1 m c s k ⟨w, h⟩ else 0
      else if h : (w : ℕ) - 384 < 352 then W3 m c s k ⟨w - 384, h⟩ else 0 := by
  simp only [V, hostOps0, hostOps0_1, hostOps0_2, hostOps0_3, hostOps0_4, hostOps0_5, hostOps0_6, List.flatten_cons, List.flatten_nil, List.cons_append, List.nil_append, List.append_nil]
  entry_read
  simp -implicitDefEqProofs only [StableHlo.TRef.toBuf, StableHlo.TRef.ofBuf, cast_cast, cast_eq]
  pointwise
  rw [sitofp_zero]

theorem w2_apply (p : Fin 4) (w : Fin 768) (k : Fin 1024) :
    V m c main_v8 (ix3 p w k) = if h : (w : ℕ) % 384 < 352 then W2 m c ⟨p * 2 + w / 384, by omega⟩ ⟨w % 384, h⟩ k else 0 := by
  simp only [V, hostOps0, hostOps0_1, hostOps0_2, hostOps0_3, hostOps0_4, hostOps0_5, hostOps0_6, List.flatten_cons, List.flatten_nil, List.cons_append, List.nil_append, List.append_nil]
  entry_read
  simp -implicitDefEqProofs only [StableHlo.TRef.toBuf, StableHlo.TRef.ofBuf, cast_cast, cast_eq]
  pointwise
  rw [sitofp_zero]
  have hp : (p : ℕ) * 2 + (w : ℕ) / 384 < 8 := by omega
  simp only [hp, true_and]

theorem ab_apply (r : Fin 8704) (j : Fin 6144) :
    V m c main_v12 (ix2 r j) = ∑ k, H m c r k * V m c main_v5 (ix3 ⟨j / 768, by omega⟩ ⟨j % 768, by omega⟩ k) := by
  simp only [V, hostOps0, hostOps0_1, hostOps0_2, hostOps0_3, hostOps0_4, hostOps0_5, hostOps0_6, List.flatten_cons, List.flatten_nil, List.cons_append, List.nil_append, List.append_nil]
  entry_read
  pointwise

theorem blk0 (t : Fin cfg0.N) (n : Fin 512) (k : Fin 1024) : iblk m c 0 t (ix2 n k) = D m c (row t n) k := by
  unfold row
  blk_point [iblk, V, idx t]

theorem blk1 (t : Fin cfg0.N) (n : Fin 512) (k : Fin 1024) : iblk m c 1 t (ix3 0 2 k) = G m c (row t n) k := by
  have e : iblk m c 1 t (ix3 0 2 k) = m ((c : Thread nD τ).loc main_arg1) (ix3 ⟨min (t.val % 17) 1, by omega⟩ 2 k) := by
    blk_ext [iblk, V, idx t]
  rw [e, G, row]
  by_cases h : t.val % 17 = 0
  · rw [if_neg (by simp only; omega), show (⟨min (t.val % 17) 1, by omega⟩ : Fin 2) = 0 from Fin.ext (by simp only [h]; rfl)]
  · rw [if_pos (by simp only; omega), show (⟨min (t.val % 17) 1, by omega⟩ : Fin 2) = 1 from Fin.ext (by simp only [Fin.val_one]; omega)]

theorem h_apply (r : Fin 8704) (k : Fin 1024) : V m c main_v9 (ix2 r k) = H m c r k := by
  simp only [V, hostOps0, hostOps0_1, hostOps0_2, hostOps0_3, hostOps0_4, hostOps0_5, hostOps0_6, List.flatten_cons, List.flatten_nil, List.cons_append, List.nil_append, List.append_nil]
  entry_read
  pointwise

theorem blk2 (t : Fin cfg0.N) (n : Fin 512) (k : Fin 1024) : iblk m c 2 t (ix2 n k) = H m c (row t n) k := by
  refine Eq.trans ?_ (h_apply m c (row t n) k)
  unfold row
  blk_ext [iblk, idx t]

theorem blk3 (t : Fin cfg0.N) (n : Fin 512) (j : Fin 1536) :
    iblk m c 3 t (ix2 n j) = V m c main_v12 (ix2 (row t n) ⟨(2 + t.val / 17) * 1536 + j, by have := lt_N t; omega⟩) := by
  unfold row
  blk_ext [iblk, idx t]

theorem blk4 (t : Fin cfg0.N) (q : Fin 2) (w : Fin 768) (k : Fin 1024) :
    iblk m c 4 t (ix3 q w k) = V m c main_v5 (ix3 (shard t q) w k) := by
  unfold shard
  blk_ext [iblk, idx t]

theorem blk5 (t : Fin cfg0.N) (w : Fin 768) (k : Fin 1024) :
    iblk m c 5 t (ix3 0 w k) = V m c main_v8 (ix3 ⟨2 + t.val / 17, by have := lt_N t; omega⟩ w k) := by
  blk_ext [iblk, idx t]

/-! The blocks' entries as the padded quantities. -/

theorem w1_entry (s : Fin 8) (w : Fin 768) (f : Fin 384) (k : Fin 1024) (hw : (w : ℕ) = f) :
    V m c main_v5 (ix3 s w k) = padW (W1 m c) s f k := by
  have hf := f.isLt
  rw [w13_apply, dif_pos (by omega), padW]
  simp only [hw]

theorem w3_entry (s : Fin 8) (w : Fin 768) (f : Fin 384) (k : Fin 1024) (hw : (w : ℕ) = 384 + f) :
    V m c main_v5 (ix3 s w k) = padW (W3 m c) s f k := by
  rw [w13_apply, dif_neg (by omega), padW]
  simp only [hw, Nat.add_sub_cancel_left]

theorem a_blk (t : Fin cfg0.N) (n : Fin 512) (j : Fin 1536) (q : Fin 2) (f : Fin 384) (hj : (j : ℕ) = q * 768 + f) :
    iblk m c 3 t (ix2 n j) = kpre (H m c) (W1 m c) (shard t q) (row t n) f := by
  rw [blk3, ab_apply]
  refine Fin.sum_fin_congr fun k => ?_
  have hf := f.isLt
  have e : (⟨((⟨(2 + t.val / 17) * 1536 + j, by have := lt_N t; omega⟩ : Fin 6144) : ℕ) / 768, by have := lt_N t; simp only; omega⟩ : Fin 8) = shard t q :=
    Fin.ext (by simp only [shard]; omega)
  rw [e, w1_entry m c (shard t q) _ f k (by simp only; omega)]

theorem b_blk (t : Fin cfg0.N) (n : Fin 512) (j : Fin 1536) (q : Fin 2) (f : Fin 384) (hj : (j : ℕ) = q * 768 + (384 + f)) :
    iblk m c 3 t (ix2 n j) = kpre (H m c) (W3 m c) (shard t q) (row t n) f := by
  rw [blk3, ab_apply]
  refine Fin.sum_fin_congr fun k => ?_
  have hf := f.isLt
  have e : (⟨((⟨(2 + t.val / 17) * 1536 + j, by have := lt_N t; omega⟩ : Fin 6144) : ℕ) / 768, by have := lt_N t; simp only; omega⟩ : Fin 8) = shard t q :=
    Fin.ext (by simp only [shard]; omega)
  rw [e, w3_entry m c (shard t q) _ f k (by simp only; omega)]

theorem v_blk (t : Fin cfg0.N) (w : Fin 768) (q : Fin 2) (f : Fin 384) (k : Fin 1024) (hw : (w : ℕ) = q * 384 + f) :
    iblk m c 5 t (ix3 0 w k) = padV (W2 m c) (shard t q) f k := by
  have hf := f.isLt
  have e1 : (w : ℕ) / 384 = q := by omega
  have e2 : (w : ℕ) % 384 = f := by omega
  rw [blk5, w2_apply, padV]
  by_cases h : (f : ℕ) < 352
  · rw [dif_pos h, dif_pos (by omega)]
    exact congrArg₂ (fun a b => W2 m c a b k) (Fin.ext (by simp only [shard]; omega)) (Fin.ext e2)
  · rw [dif_neg h, dif_neg (by omega)]

/-- A point's blocks. -/
theorem blk (t : Fin cfg0.N) : Blk (iblk m c 0 t) (iblk m c 2 t) (iblk m c 3 t) (iblk m c 4 t) (iblk m c 5 t)
    (fun n => D m c (row t n)) (fun n => H m c (row t n)) (W1 m c) (W3 m c) (W2 m c) (shard t) where
  d := blk0 m c t
  h := blk2 m c t
  a := a_blk m c t
  b := b_blk m c t
  u q w f k hw := (blk4 m c t q w k).trans (w1_entry m c _ w f k hw)
  u' q w f k hw := (blk4 m c t q w k).trans (w3_entry m c _ w f k hw)
  v := v_blk m c t

/-- The row of the gate that a point reads. -/
abbrev gt (t : Fin cfg0.N) : Vec Ideal S1x1x1024 .f32 :=
  View.ld (Val := Elt Ideal) (e' := .f32) (iblk m c 1 t) (Rect.unit ![0, 2, 0] ![1, 1, 1024] inb_S1x9x1024_S1x1x1024_0_2_0)

theorem gt_eq (t : Fin cfg0.N) : (fun (_ : Fin 512) k => (gt m c t (ix3 0 0 k) : EReal)) = fun n => G m c (row t n) := by
  funext n k
  refine Eq.trans ?_ (blk1 m c t n k)
  unfold gt
  pointwise

end Cert.Kernel4Ideal.Ffn

end
-- ==== Proof.FfnBStep.lean ====
module

public import proofs.«01_k».proof.Proof.FfnBBlocks
public import Idealize.ShloMosaic.Lib.Pipeline.ReadBack

/-! What one grid point of the first half-step's gradient leaves in its output block and in its two accumulators. -/

@[expose] public section

set_option maxRecDepth 16384

noncomputable section

open Idealize.ShloMosaic Idealize.ShloMosaic.TcCoe Idealize.SL.Sem
open Idealize.ShloMosaic.Pipeline (Dat)
open Cert.Reals Cert.FfnMath Cert.FfnPay

namespace Cert.Kernel4Ideal.Ffn

open Cert.Kernel4Ideal Cert.Kernel4Ideal.Gen

variable (m : (ℓ : Loc nD τ sig) → Buf (Elt Ideal) ℓ) (c : Dev nD) (t : Fin cfg0.N)

/-- The block of the gradient at `h` that a point writes. -/
theorem out6_apply (n : Fin 512) (k : Fin 1024) : (outsAt0 m c t.val t.isLt).1 (ix3 0 n k) =
    kdh (W1 m c) (W3 m c) (W2 m c) (D m c) (H m c) (G m c) (shard t 0) (row t n) k
      + kdh (W1 m c) (W3 m c) (W2 m c) (D m c) (H m c) (G m c) (shard t 1) (row t n) k := by
  have e := dh_tile (gt m c t) (blk m c t) (gt_eq m c t) n k
  by_cases h0 : t.val % 17 = 0
  · rw [outsAt0_A m c t h0 (by omega)]
    frame_out
    exact e
  · by_cases h1 : t.val % 17 = 16
    · rw [outsAt0_C m c t h0 h1]
      frame_out
      exact e
    · rw [outsAt0_B m c t h0 h1]
      frame_out
      exact e

/-- What a point adds to the first accumulator. -/
abbrev ab (t : Fin cfg0.N) (q : Fin 2) (w : Fin 768) (k : Fin 1024) : EReal :=
  ∑ n, kab (W1 m c) (W3 m c) (W2 m c) (D m c) (H m c) (G m c) (shard t q) (row t n) w * H m c (row t n) k

/-- What a point adds to the second accumulator. -/
abbrev zz (t : Fin cfg0.N) (w : Fin 768) (k : Fin 1024) : EReal :=
  ∑ n, kzr (W1 m c) (W3 m c) (H m c) (shard t) (row t n) w * (D m c (row t n) k * (half * G m c (row t n) k))

/-- Two stores of the two shards' sums leave the sums. -/
theorem two_sums (L : List (View.Piece (Elt Ideal) S2x768x1024 .f32)) (X1 X0 : S1x768x1024.Idx → EReal) (q : Fin 2) (w : Fin 768)
    (k : Fin 1024) (X : EReal) (h1 : q = 1 → X1 (ix3 0 w k) = X) (h0 : q = 0 → X0 (ix3 0 w k) = X) :
    View.canon (Val := Elt Ideal) (⟨Rect.unit ![1, 0, 0] ![1, 768, 1024] inb_S2x768x1024_S1x768x1024_1_0_0,
        hiPay (iblk m c 0 t) (iblk m c 2 t) (iblk m c 3 t) (iblk m c 5 t) (gt m c t) X1⟩ ::
      ⟨Rect.unit ![0, 0, 0] ![1, 768, 1024] inb_S2x768x1024_S1x768x1024_0_0_0,
        loPay (iblk m c 0 t) (iblk m c 2 t) (iblk m c 3 t) (iblk m c 5 t) (gt m c t) X0⟩ :: L) (ix3 q w k) = X + ab m c t q w k := by
  rw [two_slots]
  obtain rfl | rfl : q = 1 ∨ q = 0 := by omega
  · rw [if_pos rfl, hi_tile (gt m c t) (blk m c t) (gt_eq m c t), h1 rfl]
  · rw [if_neg (by decide), lo_tile (gt m c t) (blk m c t) (gt_eq m c t), h0 rfl]

theorem acc13_reset (h0 : t.val % 17 = 0) (q : Fin 2) (w : Fin 768) (k : Fin 1024) :
    (outsAt0 m c t.val t.isLt).2.2.2.1 (ix3 q w k) = (0 : EReal) + ab m c t q w k := by
  rw [outsAt0_A m c t h0 (by omega)]
  frame_out
  simp (disch := decide) only [↓ View.readCov_skip, ↓ View.readCov_fill]
  refine two_sums m c t _ _ _ q w k _ (fun h => ?_) fun h => ?_
  · exact zero7 _
  · exact zero7 _

theorem acc13_step (h0 : ¬t.val % 17 = 0) (q : Fin 2) (w : Fin 768) (k : Fin 1024) :
    (outsAt0 m c t.val t.isLt).2.2.2.1 (ix3 q w k) =
      ((outsAt0 m c (t.val - 1) (lt_of_le_of_lt (Nat.sub_le _ _) t.isLt)).2.2.2.1 (ix3 q w k) : EReal) + ab m c t q w k := by
  by_cases h1 : t.val % 17 = 16
  · rw [outsAt0_C m c t h0 h1]
    frame_out
    simp only [read_unread_whole]
    refine two_sums m c t _ _ _ q w k _ (fun h => ?_) fun h => ?_ <;> subst h <;> pointwise
  · rw [outsAt0_B m c t h0 h1]
    frame_out
    simp only [read_unread_whole]
    refine two_sums m c t _ _ _ q w k _ (fun h => ?_) fun h => ?_ <;> subst h <;> pointwise

theorem acc2_reset (h0 : t.val % 17 = 0) (w : Fin 768) (k : Fin 1024) :
    (outsAt0 m c t.val t.isLt).2.2.2.2 (ix2 w k) = (0 : EReal) + zz m c t w k := by
  rw [outsAt0_A m c t h0 (by omega)]
  frame_out
  exact (zz_tile (gt m c t) (blk m c t) (gt_eq m c t) _ w k).trans (congrArg (· + zz m c t w k) (zero8 _))

theorem acc2_step (h0 : ¬t.val % 17 = 0) (w : Fin 768) (k : Fin 1024) :
    (outsAt0 m c t.val t.isLt).2.2.2.2 (ix2 w k) =
      ((outsAt0 m c (t.val - 1) (lt_of_le_of_lt (Nat.sub_le _ _) t.isLt)).2.2.2.2 (ix2 w k) : EReal) + zz m c t w k := by
  by_cases h1 : t.val % 17 = 16
  · rw [outsAt0_C m c t h0 h1]
    frame_out
    simp only [read_unread_whole]
    exact zz_tile (gt m c t) (blk m c t) (gt_eq m c t) _ w k
  · rw [outsAt0_B m c t h0 h1]
    frame_out
    simp only [read_unread_whole]
    exact zz_tile (gt m c t) (blk m c t) (gt_eq m c t) _ w k

end Cert.Kernel4Ideal.Ffn

end
-- ==== Proof.FfnBRef.lean ====
module

public import proofs.«01_k».proof.Proof.FfnMath
public import proofs.«01_k».proof.Proof.Gen.Reference4Ideal.Read

/-! The fourth reference's three results, entry by entry. -/

@[expose] public section

set_option maxRecDepth 16384

noncomputable section

open Idealize.ShloMosaic Idealize.ShloMosaic.TcCoe Idealize.SL.Sem
open Cert.Reals Cert.FfnMath

namespace Cert.Reference4Ideal.Ffn

open Cert.Reference4Ideal Cert.Reference4Ideal.Gen Cert.Reference4Ideal.Read

variable (x0 x2 : S8704x1024.Idx → EReal) (x1 : S2x9x1024.Idx → EReal) (x3 x4 : S8x1024x352.Idx → EReal)
  (x5 : S8x352x1024.Idx → EReal)

/-- The six arguments as functions of coordinates. -/
abbrev D (r : Fin 8704) (k : Fin 1024) : EReal := x0 (ix2 r k)
abbrev G (r : Fin 8704) (k : Fin 1024) : EReal := val_main_v9 (F := Ideal) x1 (ix2 r k)
abbrev W (x : S8x1024x352.Idx → EReal) (s : Fin 8) (k : Fin 1024) (f : Fin 352) : EReal := x (ix3 s k f)
abbrev W2 (s : Fin 8) (f : Fin 352) (k : Fin 1024) : EReal := x5 (ix3 s f k)

theorem sitofp_zero : (FloatOps.sitofp FTy.f32 0#32 : Ideal .f32) = (0 : EReal) := by
  show ((((0#32 : BitVec 32).toInt : ℝ) : EReal)) = 0
  simp

/-- The gate: one row of factors for the sequence's rows, another for the context's. -/
theorem gate_apply (r : Fin 8704) (k : Fin 1024) : G x1 r k = if (r : ℕ) < 8192 then x1 (ix3 1 2 k) else x1 (ix3 0 2 k) := by
  unfold G
  pointwise [val_main_v3, val_main_v4, val_main_v5, val_main_v6, val_main_v7, val_main_v8, val_main_v9]
  split <;> rfl

set_option maxHeartbeats 800000 in
theorem dh_apply (p : Fin 2) (r : Fin 8704) (k : Fin 1024) :
    val_main_v41 (F := Ideal) x0 x1 x2 x3 x4 x5 (ix3 p r k) =
      ∑ q : Fin 2, dh (D x0) (D x2) (G x1) (W x3) (W x4) (W2 x5) ⟨4 + (p * 2 + q), by omega⟩ r k := by
  pointwise [val_main_v0, val_main_v1, val_main_v2, val_main_cst, val_main_v10, val_main_v11, val_main_v12, val_main_call0_v0, val_main_call0_v1, val_main_call0_cst, val_main_call0_v2, val_main_call0_v3, val_main_call0_cst_0, val_main_call0_v4, val_main_v13_2, val_main_call0_cst_1, val_main_call0_v6, val_main_call0_v7, val_main_v13_1, val_main_v13_0, val_main_v14, val_main_v15, val_main_v16, val_main_v17, val_main_v18, val_main_v19, val_main_v20, val_main_v21, val_main_v22, val_main_v23, val_main_v24, val_main_v25, val_main_v26, val_main_v27, val_main_v28, val_main_call1_v0, val_main_call1_v1, val_main_call1_v2, val_main_v29, val_main_v30, val_main_v31, val_main_v32, val_main_v33, val_main_v34, val_main_cst_0, val_main_v35, val_main_v36, val_main_c, val_main_call2_v0, val_main_v37, val_main_v38, val_main_c_1, val_main_call3_v0, val_main_v39, val_main_v40, val_main_v41, val_main_v42, val_main_c_2, val_main_call4_v0, val_main_v43, val_main_v44, val_main_v45]
  rfl

set_option maxHeartbeats 800000 in
theorem dw13_apply (s : Fin 4) (w : Fin 768) (k : Fin 1024) :
    val_main_v42 (F := Ideal) x0 x1 x2 x3 x4 x5 (ix3 s w k) =
      if _ : (w : ℕ) < 384 then
        if h : (w : ℕ) < 352 then dw1 (D x0) (D x2) (G x1) (W x3) (W x4) (W2 x5) ⟨4 + s, by omega⟩ ⟨w, h⟩ k else 0
      else if h : (w : ℕ) - 384 < 352 then dw3 (D x0) (D x2) (G x1) (W x3) (W2 x5) ⟨4 + s, by omega⟩ ⟨w - 384, h⟩ k else 0 := by
  pointwise [val_main_v0, val_main_v1, val_main_v2, val_main_cst, val_main_v10, val_main_v11, val_main_v12, val_main_call0_v0, val_main_call0_v1, val_main_call0_cst, val_main_call0_v2, val_main_call0_v3, val_main_call0_cst_0, val_main_call0_v4, val_main_v13_2, val_main_call0_cst_1, val_main_call0_v6, val_main_call0_v7, val_main_v13_1, val_main_v13_0, val_main_v14, val_main_v15, val_main_v16, val_main_v17, val_main_v18, val_main_v19, val_main_v20, val_main_v21, val_main_v22, val_main_v23, val_main_v24, val_main_v25, val_main_v26, val_main_v27, val_main_v28, val_main_call1_v0, val_main_call1_v1, val_main_call1_v2, val_main_v29, val_main_v30, val_main_v31, val_main_v32, val_main_v33, val_main_v34, val_main_cst_0, val_main_v35, val_main_v36, val_main_c, val_main_call2_v0, val_main_v37, val_main_v38, val_main_c_1, val_main_call3_v0, val_main_v39, val_main_v40, val_main_v41, val_main_v42, val_main_c_2, val_main_call4_v0, val_main_v43, val_main_v44, val_main_v45]
  by_cases h : (w : ℕ) < 384
  · refine (dif_pos h).trans (Eq.trans ?_ (dif_pos h).symm)
    by_cases h' : (w : ℕ) < 352
    · refine (dif_pos h').trans (Eq.trans ?_ (dif_pos h').symm)
      rfl
    · refine (dif_neg h').trans (sitofp_zero.trans ?_)
      rw [dif_neg h']
  · refine (dif_neg h).trans (Eq.trans ?_ (dif_neg h).symm)
    by_cases h' : (w : ℕ) - 384 < 352
    · refine (dif_pos h').trans (Eq.trans ?_ (dif_pos h').symm)
      rfl
    · refine (dif_neg h').trans (sitofp_zero.trans ?_)
      rw [dif_neg h']

set_option maxHeartbeats 800000 in
theorem dw2_apply (p : Fin 2) (w : Fin 768) (k : Fin 1024) :
    val_main_v45 (F := Ideal) x0 x1 x2 x3 x4 (ix3 p w k) =
      if h : (w : ℕ) % 384 < 352 then
        dw2 (D x0) (D x2) (G x1) (W x3) (W x4) ⟨4 + (p * 2 + w / 384), by omega⟩ ⟨w % 384, h⟩ k
      else 0 := by
  pointwise [val_main_v0, val_main_v1, val_main_v2, val_main_cst, val_main_v10, val_main_v11, val_main_v12, val_main_call0_v0, val_main_call0_v1, val_main_call0_cst, val_main_call0_v2, val_main_call0_v3, val_main_call0_cst_0, val_main_call0_v4, val_main_v13_2, val_main_call0_cst_1, val_main_call0_v6, val_main_call0_v7, val_main_v13_1, val_main_v13_0, val_main_v14, val_main_v15, val_main_v16, val_main_v17, val_main_v18, val_main_v19, val_main_v20, val_main_v21, val_main_v22, val_main_v23, val_main_v24, val_main_v25, val_main_v26, val_main_v27, val_main_v28, val_main_call1_v0, val_main_call1_v1, val_main_call1_v2, val_main_v29, val_main_v30, val_main_v31, val_main_v32, val_main_v33, val_main_v34, val_main_cst_0, val_main_v35, val_main_v36, val_main_c, val_main_call2_v0, val_main_v37, val_main_v38, val_main_c_1, val_main_call3_v0, val_main_v39, val_main_v40, val_main_v41, val_main_v42, val_main_c_2, val_main_call4_v0, val_main_v43, val_main_v44, val_main_v45]
  have hp : (p : ℕ) * 2 + (w : ℕ) / 384 < 4 := by omega
  by_cases h : (w : ℕ) % 384 < 352
  · refine (dif_pos ⟨hp, h⟩).trans (Eq.trans ?_ (dif_pos h).symm)
    rfl
  · refine (dif_neg fun h' => h h'.2).trans (sitofp_zero.trans ?_)
    rw [dif_neg h]

end Cert.Reference4Ideal.Ffn

end
-- ==== Proof.FfnBFinal.lean ====
module

public import proofs.«01_k».proof.Proof.FfnBStep
public import proofs.«01_k».proof.Proof.FfnBRef
public import Idealize.ShloMosaic.Lib.Pipeline.ReadBack

/-! The accumulated sums over all rows, and the three result arrays of the first half-step's gradient. -/

@[expose] public section

set_option maxRecDepth 16384

noncomputable section

open Idealize.ShloMosaic Idealize.ShloMosaic.TcCoe Idealize.SL.Sem
open Idealize.ShloMosaic.Pipeline (Dat)
open Cert.Reals Cert.FfnMath Cert.FfnPay

namespace Cert.Kernel4Ideal.Ffn

open Cert.Kernel4Ideal Cert.Kernel4Ideal.Gen

variable (m : (ℓ : Loc nD τ sig) → Buf (Elt Ideal) ℓ) (c : Dev nD) (t : Fin cfg0.N)

theorem run_shard (hr : t.val % 17 = 16) (s : Fin 17) (q : Fin 2) :
    shard ⟨17 * (t.val / 17) + s.val, Pipeline.run_point_lt_of_flush t hr s⟩ q = shard t q :=
  Fin.ext (by simp only [shard]; omega)

theorem run_row (hr : t.val % 17 = 16) (s : Fin 17) (n : Fin 512) :
    row ⟨17 * (t.val / 17) + s.val, Pipeline.run_point_lt_of_flush t hr s⟩ n = ⟨(s.val + 16) % 17 * 512 + n.val, by omega⟩ :=
  Fin.ext (by simp only [row]; omega)

/-- The first accumulator at the end of a run: the sum over all rows. -/
theorem acc13_run (hr : t.val % 17 = 16) (q : Fin 2) (w : Fin 768) (k : Fin 1024) :
    (outsAt0 m c t.val t.isLt).2.2.2.1 (ix3 q w k) =
      ∑ r, kab (W1 m c) (W3 m c) (W2 m c) (D m c) (H m c) (G m c) (shard t q) r w * H m c r k := by
  have e := Pipeline.eq_sum_fin_of_reset_step_apply_of_flush
    (fun n h (i : S2x768x1024.Idx) => ((outsAt0 m c n h).2.2.2.1 i : EReal)) 17 (fun _ => (0 : EReal))
    (fun t i => ab m c t (i 0) (i 1) (i 2))
    (fun t h i => by idx_vars i; exact acc13_reset m c t h i0 i1 i2)
    (fun t h i => by idx_vars i; exact acc13_step m c t h i0 i1 i2) t hr (ix3 q w k)
  refine e.trans ?_
  rw [zero_add]
  refine Eq.trans ?_ (sum_tiles fun r => kab (W1 m c) (W3 m c) (W2 m c) (D m c) (H m c) (G m c) (shard t q) r w * H m c r k)
  refine Finset.sum_congr rfl fun s _ => Finset.sum_congr rfl fun n _ => ?_
  refine Eq.trans ?_ (show kab (W1 m c) (W3 m c) (W2 m c) (D m c) (H m c) (G m c)
    (shard ⟨17 * (t.val / 17) + s.val, Pipeline.run_point_lt_of_flush t hr s⟩ q)
    (row ⟨17 * (t.val / 17) + s.val, Pipeline.run_point_lt_of_flush t hr s⟩ n) w *
      H m c (row ⟨17 * (t.val / 17) + s.val, Pipeline.run_point_lt_of_flush t hr s⟩ n) k = _ from by
    rw [run_shard t hr, run_row t hr s n])
  rfl

/-- The second accumulator at the end of a run. -/
theorem acc2_run (hr : t.val % 17 = 16) (w : Fin 768) (k : Fin 1024) :
    (outsAt0 m c t.val t.isLt).2.2.2.2 (ix2 w k) =
      ∑ r, kzr (W1 m c) (W3 m c) (H m c) (shard t) r w * (D m c r k * (half * G m c r k)) := by
  have e := Pipeline.eq_sum_fin_of_reset_step_apply_of_flush
    (fun n h (i : S768x1024.Idx) => ((outsAt0 m c n h).2.2.2.2 i : EReal)) 17 (fun _ => (0 : EReal))
    (fun t i => zz m c t (i 0) (i 1))
    (fun t h i => by idx_vars i; exact acc2_reset m c t h i0 i1)
    (fun t h i => by idx_vars i; exact acc2_step m c t h i0 i1) t hr (ix2 w k)
  refine e.trans ?_
  rw [zero_add]
  refine Eq.trans ?_ (sum_tiles fun r => kzr (W1 m c) (W3 m c) (H m c) (shard t) r w * (D m c r k * (half * G m c r k)))
  refine Finset.sum_congr rfl fun s _ => Finset.sum_congr rfl fun n _ => ?_
  have es : shard ⟨17 * (t.val / 17) + s.val, Pipeline.run_point_lt_of_flush t hr s⟩ = shard t := funext (run_shard t hr s)
  refine Eq.trans ?_ (show kzr (W1 m c) (W3 m c) (H m c)
    (shard ⟨17 * (t.val / 17) + s.val, Pipeline.run_point_lt_of_flush t hr s⟩)
    (row ⟨17 * (t.val / 17) + s.val, Pipeline.run_point_lt_of_flush t hr s⟩ n) w *
      (D m c (row ⟨17 * (t.val / 17) + s.val, Pipeline.run_point_lt_of_flush t hr s⟩ n) k *
        (half * G m c (row ⟨17 * (t.val / 17) + s.val, Pipeline.run_point_lt_of_flush t hr s⟩ n) k)) = _ from by
    rw [es, run_row t hr s n])
  rfl

/-- What the last point of a run writes out of the first accumulator: what the stores before left there. -/
theorem read_all (L : List (View.Piece (Elt Ideal) S2x768x1024 .f32)) (y : S2x768x1024.Idx) :
    k0_pay5 ((View.whole cc0_scratch0).readCov (Val := Elt Ideal) L
      (Rect.unit ![0, 0, 0] ![2, 768, 1024] inb_S2x768x1024_S2x768x1024_0_0_0).toLoadRect) y = View.canon L y := by
  have o : (Rect.unit ![0, 0, 0] ![2, 768, 1024] inb_S2x768x1024_S2x768x1024_0_0_0 : Rect S2x768x1024).emb y = y := by
    funext a; apply Fin.ext; rw [Rect.emb_apply]; fin_cases a <;> simp
  refine (pay5_apply _ y).trans ?_
  rw [View.readCov_eq_canon']
  exact congrArg _ o

set_option maxHeartbeats 800000 in
/-- The block of the first layer's gradients that the last point of a run writes is the accumulator. -/
theorem out7_apply (hr : t.val % 17 = 16) (y : S2x768x1024.Idx) :
    (outsAt0 m c t.val t.isLt).2.1 y = (outsAt0 m c t.val t.isLt).2.2.2.1 y := by
  rw [outsAt0_C m c t (by omega) hr]
  frame_out
  exact read_all _ y

set_option maxHeartbeats 800000 in
/-- The block of the second layer's gradients likewise. -/
theorem out8_apply (hr : t.val % 17 = 16) (w : Fin 768) (k : Fin 1024) :
    (outsAt0 m c t.val t.isLt).2.2.1 (ix3 0 w k) = (outsAt0 m c t.val t.isLt).2.2.2.2 (ix2 w k) := by
  rw [outsAt0_C m c t (by omega) hr]
  frame_out
  exact pay6_apply _ w k

/-- The pair of shards of a point. -/
def pair (t : Fin cfg0.N) : Fin 2 := ⟨t.val / 17, by have := lt_N t; omega⟩

/-- The shard's place in the result. -/
def slot (t : Fin cfg0.N) (q : Fin 2) : Fin 4 := ⟨t.val / 17 * 2 + q, by have := lt_N t; omega⟩

/-- The reference's gate is the kernel's. -/
theorem gate_eq : Reference4Ideal.Ffn.G (m ((c : Thread nD τ).loc main_arg1)) = G m c :=
  funext fun r => funext fun k => Reference4Ideal.Ffn.gate_apply _ r k

set_option maxHeartbeats 800000 in
/-- The array of the gradient at `h`. -/
theorem final6 (hr : Reals (D m c) (H m c) (G m c) (W1 m c) (W3 m c) (W2 m c)) : (dats m 0 c).arrAt 6 (cfgs 0).N =
    Reference4Ideal.Read.val_main_v41 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  idx_vars y
  obtain rfl : y0 = 0 := Fin.ext (by omega)
  rw [out6_apply, show ((View.whole main_v13_0).slice (win0_6.rect t)).emb (ix3 0 y1 y2) = ix3 (pair t) (row t y1) y2 from by
    blk_ext [idx t, pair, row], Reference4Ideal.Ffn.dh_apply, gate_eq m c, Fin.sum_univ_two, kdh, kdh, kdh_eq hr, kdh_eq hr]
  rfl

set_option maxHeartbeats 800000 in
/-- The array of the gradients at `w1` and `w3`. -/
theorem final7 (hr : Reals (D m c) (H m c) (G m c) (W1 m c) (W3 m c) (W2 m c)) : (dats m 0 c).arrAt 7 (cfgs 0).N =
    Reference4Ideal.Read.val_main_v42 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  idx_vars y
  rw [out7_apply m c t ((flush0_7 t).mp hf), acc13_run m c t ((flush0_7 t).mp hf), show ((View.whole main_v13_1).slice (win0_7.rect t)).emb (ix3 y0 y1 y2) = ix3 (slot t y0) y1 y2 from by
    blk_ext [idx t, slot], Reference4Ideal.Ffn.dw13_apply, gate_eq m c]
  exact kab_sum hr _ _ _

set_option maxHeartbeats 800000 in
/-- The array of the gradient at `w2`. -/
theorem final8 (hr : Reals (D m c) (H m c) (G m c) (W1 m c) (W3 m c) (W2 m c)) : (dats m 0 c).arrAt 8 (cfgs 0).N =
    Reference4Ideal.Read.val_main_v45 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 8 _ (by decide +kernel) fun t hf y => ?_
  blk_simp
  rw [after0_8]
  idx_vars y
  obtain rfl : y0 = 0 := Fin.ext (by omega)
  rw [out8_apply m c t ((flush0_8 t).mp hf), acc2_run m c t ((flush0_8 t).mp hf), show ((View.whole main_v13_2).slice (win0_8.rect t)).emb (ix3 0 y1 y2) = ix3 (pair t) y1 y2 from by
    blk_ext [idx t, pair], Reference4Ideal.Ffn.dw2_apply, gate_eq m c]
  have hs : shard t ⟨(y1 : ℕ) / 384, by omega⟩ = ⟨4 + (pair t * 2 + (y1 : ℕ) / 384), by omega⟩ := rfl
  rw [kzr_sum (D := D m c) (H := H m c) (G := G m c) (W1 := W1 m c) (W3 := W3 m c) (shard t) y1 y2 _ hs]

end Cert.Kernel4Ideal.Ffn

end
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_ffn_grad_finite
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_mix_grad_finite
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_ffn0_grad_finite
public import proofs.«01_k».proof.Proof.Pre
public import proofs.«01_k».proof.Proof.FfnFinal
public import proofs.«01_k».proof.Proof.PreMix
public import proofs.«01_k».proof.Proof.MixFinal
public import proofs.«01_k».proof.Proof.PreFfn0
public import proofs.«01_k».proof.Proof.FfnAFinal
public import proofs.«01_k».proof.Proof.FfnBFinal
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Under the precondition every entry of the arguments is a real number. -/
theorem reals (m : (ℓ : Loc Cert.KernelIdeal.nD Cert.KernelIdeal.τ Cert.KernelIdeal.sig) → Buf (Elt Ideal) ℓ)
    (hpre : Pre_KernelIdeal_ffn_grad_finite m) (c : Dev Cert.KernelIdeal.nD) :
    FfnMath.Reals (KernelIdeal.Ffn.D m c) (KernelIdeal.Ffn.H m c) (KernelIdeal.Ffn.G m c) (KernelIdeal.Ffn.W1 m c)
      (KernelIdeal.Ffn.W3 m c) (KernelIdeal.Ffn.W2 m c) := by
  obtain ⟨r0, r1, r2, r3, r4, r5⟩ := Pre_ffn_grad_finite.Meaning.reals _ _ _ _ _ _ (hpre c)
  exact ⟨fun r k => r0 _, fun r k => r2 _, fun r k => r1 _, fun s k f => r3 _, fun s k f => r4 _, fun s f k => r5 _⟩

/-- The reference runs, and its arguments and counters end as they began. -/
theorem frame_reference : quiescent_ReferenceIdeal := fun m g _ =>
  (θ_run _ _ _).mono (fun r h => ⟨fun c => (h c).2.2.2, sem_eq_zero_of_no_sems (by decide) r.2⟩) (Cert.ReferenceIdeal.Value.run m g)

/-- The kernel's three result arrays are the reference's. -/
theorem value : algebraic_KernelIdeal_ReferenceIdeal_pre_ffn_grad_finite := by
  intro m g m' g' hpre hagree
  refine ⟨fun c => (KernelIdeal.Gen.dats m 0 c).arrAt 6 (KernelIdeal.cfgs 0).N, fun c => (KernelIdeal.Gen.dats m 0 c).arrAt 7 (KernelIdeal.cfgs 0).N,
    fun c => (KernelIdeal.Gen.dats m 0 c).arrAt 8 (KernelIdeal.cfgs 0).N, Cert.KernelIdeal.Value.run_blocks m g, ?_⟩
  refine (θ_run _ _ _).mono (fun r h c => ?_) (Cert.ReferenceIdeal.Value.run m' g')
  obtain ⟨h0, h1, h2, hargs⟩ := h c
  obtain ⟨a0, a1, a2, a3, a4, a5⟩ := hagree c
  refine ⟨h0.trans ?_, h1.trans ?_, h2.trans ?_, hargs⟩ <;> clear h0 h1 h2 hargs h
  · rw [ReferenceIdeal.Read.val_main_v35_eq, a0, a1, a2, a3, a4, a5]
    exact (KernelIdeal.Ffn.final6 m c (reals m hpre c)).symm
  · rw [ReferenceIdeal.Read.val_main_v36_eq, a0, a1, a2, a3, a4, a5]
    exact (KernelIdeal.Ffn.final7 m c (reals m hpre c)).symm
  · refine (ReferenceIdeal.Read.val_main_v39_eq _ _ _ _ _).trans ?_
    rw [a0, a1, a2, a3, a4]
    exact (KernelIdeal.Ffn.final8 m c (reals m hpre c)).symm

/-- Under the second precondition every entry of five of the arguments is a real number. -/
theorem reals2 (m : (ℓ : Loc Cert.Kernel2Ideal.nD Cert.Kernel2Ideal.τ Cert.Kernel2Ideal.sig) → Buf (Elt Ideal) ℓ)
    (hpre : Pre_Kernel2Ideal_mix_grad_finite m) (c : Dev Cert.Kernel2Ideal.nD) :
    MixMath.Reals (Kernel2Ideal.Mix.X m c) (Kernel2Ideal.Mix.Y m c) (Kernel2Ideal.Mix.G m c) (Kernel2Ideal.Mix.L m c)
      (Kernel2Ideal.Mix.O m c) := by
  obtain ⟨r0, r1, r3, r6, r7⟩ := Pre_mix_grad_finite.Meaning.reals _ _ _ _ _ _ _ _ (hpre c)
  exact ⟨fun r k => r0 _, fun r j => r1 _, fun k => r3 _, fun i j => r6 _, fun j k => r7 _⟩

/-- The second reference runs, and its arguments and counters end as they began. -/
theorem frame_reference2 : quiescent_Reference2Ideal := fun m g _ =>
  (θ_run _ _ _).mono (fun r h => ⟨fun c => (h c).2.2.2.2.2.2.2, sem_eq_zero_of_no_sems (by decide) r.2⟩) (Cert.Reference2Ideal.Value.run m g)

/-- The names the second kernel's constants carry stand for the exact values. -/
theorem names2 : preserves_Kernel2_Kernel2Ideal :=
  ⟨IdealRules.named_const.statement Cert.Kernel2Ideal.κ "gelu_cubic" .f32 0x3D372713#32 ((8943 / 200000 : ℝ) : EReal) rfl,
    IdealRules.named_const.statement Cert.Kernel2Ideal.κ "gelu_cubic_grad" .f32 0x3E095D4F#32 ((26829 / 200000 : ℝ) : EReal) rfl⟩

set_option maxHeartbeats 1600000 in
/-- The second kernel's seven result arrays are its reference's. -/
theorem value2 : algebraic_Kernel2Ideal_Reference2Ideal_pre_mix_grad_finite := by
  intro m g m' g' hpre hagree
  refine ⟨fun c => (Kernel2Ideal.Gen.dats m 0 c).arrAt 10 (Kernel2Ideal.cfgs 0).N,
    fun c => (Kernel2Ideal.Gen.dats m 0 c).arrAt 11 (Kernel2Ideal.cfgs 0).N,
    fun c => (Kernel2Ideal.Gen.dats m 0 c).arrAt 12 (Kernel2Ideal.cfgs 0).N,
    fun c => (Kernel2Ideal.Gen.dats m 0 c).arrAt 13 (Kernel2Ideal.cfgs 0).N,
    fun c => (Kernel2Ideal.Gen.dats m 0 c).arrAt 14 (Kernel2Ideal.cfgs 0).N,
    fun c => (Kernel2Ideal.Gen.dats m 0 c).arrAt 15 (Kernel2Ideal.cfgs 0).N,
    fun c => (Kernel2Ideal.Gen.dats m 0 c).arrAt 16 (Kernel2Ideal.cfgs 0).N, Cert.Kernel2Ideal.Value.run_blocks m g, ?_⟩
  refine (θ_run _ _ _).mono (fun r h c => ?_) (Cert.Reference2Ideal.Value.run m' g')
  obtain ⟨h0, h1, h2, h3, h4, h5, h6, hargs⟩ := h c
  obtain ⟨a0, a1, a2, a3, a4, a5, a6, a7⟩ := hagree c
  refine ⟨h0.trans ?_, h1.trans ?_, h2.trans ?_, h3.trans ?_, h4.trans ?_, h5.trans ?_, h6.trans ?_, hargs⟩ <;> clear h0 h1 h2 h3 h4 h5 h6 hargs h
  · rw [Reference2Ideal.Read.val_main_v78_eq, a0, a1, a3, a6, a7]
    exact (Kernel2Ideal.Mix.final10 m c (reals2 m hpre c)).symm
  · refine (Reference2Ideal.Read.val_main_v59_eq _ _ _ _ _).trans ?_
    rw [a0, a3, a4, a5, a7]
    exact (Kernel2Ideal.Mix.final11 m c).symm
  · refine (Reference2Ideal.Read.val_main_v79_eq _ _ _ _ _ _ _).trans ?_
    rw [a0, a1, a2, a3, a4, a5, a6]
    exact (Kernel2Ideal.Mix.final12 m c).symm
  · refine (Reference2Ideal.Read.val_main_v80_eq _ _ _ _ _).trans ?_
    rw [a0, a1, a3, a6, a7]
    exact (Kernel2Ideal.Mix.final13 m c).symm
  · refine (Reference2Ideal.Read.val_main_v58_eq _ _ _ _ _).trans ?_
    rw [a0, a2, a3, a5, a7]
    exact (Kernel2Ideal.Mix.final14 m c).symm
  · refine (Reference2Ideal.Read.val_main_v54_eq _ _ _ _ _).trans ?_
    rw [a0, a2, a3, a4, a7]
    exact (Kernel2Ideal.Mix.final15 m c).symm
  · refine (Reference2Ideal.Read.val_main_v46_eq _ _ _ _ _ _ _).trans ?_
    rw [a0, a1, a2, a4, a5, a6, a7]
    exact (Kernel2Ideal.Mix.final16 m c).symm

/-- Under the third precondition every entry of the third kernel's arguments is a real number. -/
theorem reals3 (m : (ℓ : Loc Cert.Kernel3Ideal.nD Cert.Kernel3Ideal.τ Cert.Kernel3Ideal.sig) → Buf (Elt Ideal) ℓ)
    (hpre : Pre_Kernel3Ideal_ffn0_grad_finite m) (c : Dev Cert.Kernel3Ideal.nD) :
    FfnMath.Reals (Kernel3Ideal.Ffn.D m c) (Kernel3Ideal.Ffn.H m c) (Kernel3Ideal.Ffn.G m c) (Kernel3Ideal.Ffn.W1 m c)
      (Kernel3Ideal.Ffn.W3 m c) (Kernel3Ideal.Ffn.W2 m c) := by
  obtain ⟨r0, r1, r2, r3, r4, r5⟩ := Pre_ffn0_grad_finite.Meaning.reals _ _ _ _ _ _ (hpre c)
  refine ⟨fun r k => r0 _, fun r k => r2 _, fun r k => ?_, fun s k f => r3 _, fun s k f => r4 _, fun s f k => r5 _⟩
  unfold Kernel3Ideal.Ffn.G
  split
  · exact r1 _
  · exact r1 _

/-- The third reference runs, and its arguments and counters end as they began. -/
theorem frame_reference3 : quiescent_Reference3Ideal := fun m g _ =>
  (θ_run _ _ _).mono (fun r h => ⟨fun c => (h c).2.2.2, sem_eq_zero_of_no_sems (by decide) r.2⟩) (Cert.Reference3Ideal.Value.run m g)

set_option maxHeartbeats 1600000 in
/-- The third kernel's three result arrays are its reference's. -/
theorem value3 : algebraic_Kernel3Ideal_Reference3Ideal_pre_ffn0_grad_finite := by
  intro m g m' g' hpre hagree
  refine ⟨fun c => (Kernel3Ideal.Gen.dats m 0 c).arrAt 6 (Kernel3Ideal.cfgs 0).N,
    fun c => (Kernel3Ideal.Gen.dats m 0 c).arrAt 7 (Kernel3Ideal.cfgs 0).N,
    fun c => (Kernel3Ideal.Gen.dats m 0 c).arrAt 8 (Kernel3Ideal.cfgs 0).N, Cert.Kernel3Ideal.Value.run_blocks m g, ?_⟩
  refine (θ_run _ _ _).mono (fun r h c => ?_) (Cert.Reference3Ideal.Value.run m' g')
  obtain ⟨h0, h1, h2, hargs⟩ := h c
  obtain ⟨a0, a1, a2, a3, a4, a5⟩ := hagree c
  refine ⟨h0.trans ?_, h1.trans ?_, h2.trans ?_, hargs⟩ <;> clear h0 h1 h2 hargs h
  · rw [Reference3Ideal.Read.val_main_v41_eq, a0, a1, a2, a3, a4, a5]
    exact (Kernel3Ideal.Ffn.final6 m c (reals3 m hpre c)).symm
  · rw [Reference3Ideal.Read.val_main_v42_eq, a0, a1, a2, a3, a4, a5]
    exact (Kernel3Ideal.Ffn.final7 m c (reals3 m hpre c)).symm
  · refine (Reference3Ideal.Read.val_main_v45_eq _ _ _ _ _).trans ?_
    rw [a0, a1, a2, a3, a4]
    exact (Kernel3Ideal.Ffn.final8 m c (reals3 m hpre c)).symm

/-- Under the third precondition every entry of the fourth kernel's arguments is a real number. -/
theorem reals4 (m : (ℓ : Loc Cert.Kernel4Ideal.nD Cert.Kernel4Ideal.τ Cert.Kernel4Ideal.sig) → Buf (Elt Ideal) ℓ)
    (hpre : Pre_Kernel4Ideal_ffn0_grad_finite m) (c : Dev Cert.Kernel4Ideal.nD) :
    FfnMath.Reals (Kernel4Ideal.Ffn.D m c) (Kernel4Ideal.Ffn.H m c) (Kernel4Ideal.Ffn.G m c) (Kernel4Ideal.Ffn.W1 m c)
      (Kernel4Ideal.Ffn.W3 m c) (Kernel4Ideal.Ffn.W2 m c) := by
  obtain ⟨r0, r1, r2, r3, r4, r5⟩ := Pre_ffn0_grad_finite.Meaning.reals _ _ _ _ _ _ (hpre c)
  refine ⟨fun r k => r0 _, fun r k => r2 _, fun r k => ?_, fun s k f => r3 _, fun s k f => r4 _, fun s f k => r5 _⟩
  unfold Kernel4Ideal.Ffn.G
  split
  · exact r1 _
  · exact r1 _

/-- The fourth reference runs, and its arguments and counters end as they began. -/
theorem frame_reference4 : quiescent_Reference4Ideal := fun m g _ =>
  (θ_run _ _ _).mono (fun r h => ⟨fun c => (h c).2.2.2, sem_eq_zero_of_no_sems (by decide) r.2⟩) (Cert.Reference4Ideal.Value.run m g)

set_option maxHeartbeats 1600000 in
/-- The fourth kernel's three result arrays are its reference's. -/
theorem value4 : algebraic_Kernel4Ideal_Reference4Ideal_pre_ffn0_grad_finite := by
  intro m g m' g' hpre hagree
  refine ⟨fun c => (Kernel4Ideal.Gen.dats m 0 c).arrAt 6 (Kernel4Ideal.cfgs 0).N,
    fun c => (Kernel4Ideal.Gen.dats m 0 c).arrAt 7 (Kernel4Ideal.cfgs 0).N,
    fun c => (Kernel4Ideal.Gen.dats m 0 c).arrAt 8 (Kernel4Ideal.cfgs 0).N, Cert.Kernel4Ideal.Value.run_blocks m g, ?_⟩
  refine (θ_run _ _ _).mono (fun r h c => ?_) (Cert.Reference4Ideal.Value.run m' g')
  obtain ⟨h0, h1, h2, hargs⟩ := h c
  obtain ⟨a0, a1, a2, a3, a4, a5⟩ := hagree c
  refine ⟨h0.trans ?_, h1.trans ?_, h2.trans ?_, hargs⟩ <;> clear h0 h1 h2 hargs h
  · rw [Reference4Ideal.Read.val_main_v41_eq, a0, a1, a2, a3, a4, a5]
    exact (Kernel4Ideal.Ffn.final6 m c (reals4 m hpre c)).symm
  · rw [Reference4Ideal.Read.val_main_v42_eq, a0, a1, a2, a3, a4, a5]
    exact (Kernel4Ideal.Ffn.final7 m c (reals4 m hpre c)).symm
  · refine (Reference4Ideal.Read.val_main_v45_eq _ _ _ _ _).trans ?_
    rw [a0, a1, a2, a3, a4]
    exact (Kernel4Ideal.Ffn.final8 m c (reals4 m hpre c)).symm

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_ffn_grad_finite.Gen.facts,
    Cert.Pre_mix_grad_finite.Gen.facts, Cert.Pre_ffn0_grad_finite.Gen.facts,
    fun m g _ => Cert.Kernel.Gen.frame m g, fun m g _ => Cert.KernelIdeal.Gen.frame m g, fun m g _ => Cert.KernelIdeal.Gen.frame m g,
    frame_reference, fun m g _ => frame_reference m g trivial,
    fun m g _ => Cert.Kernel2.Gen.frame m g, fun m g _ => Cert.Kernel2Ideal.Gen.frame m g, fun m g _ => Cert.Kernel2Ideal.Gen.frame m g,
    frame_reference2, fun m g _ => frame_reference2 m g trivial,
    fun m g _ => Cert.Kernel3.Gen.frame m g, fun m g _ => Cert.Kernel3Ideal.Gen.frame m g, fun m g _ => Cert.Kernel3Ideal.Gen.frame m g,
    frame_reference3, fun m g _ => frame_reference3 m g trivial,
    fun m g _ => Cert.Kernel4.Gen.frame m g, fun m g _ => Cert.Kernel4Ideal.Gen.frame m g, fun m g _ => Cert.Kernel4Ideal.Gen.frame m g,
    frame_reference4, fun m g _ => frame_reference4 m g trivial,
    trivial, value, names2, value2, trivial, value3, trivial, value4⟩

end Cert.Proof

end
